-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ten_above [hPre_ten_above : Cert.Pre_ten_above.Facts] (m : (ℓ : Loc Cert.KernelIdeal.nD Cert.KernelIdeal.τ Cert.KernelIdeal.sig) → Buf (Elt Ideal) ℓ) : Prop :=
  ∀ c : Dev Cert.KernelIdeal.nD,
    (Cert.Pre_ten_above.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ten_above [hPre_ten_above : Cert.Pre_ten_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ten_above.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_ten_above [hKernelIdeal : Cert.KernelIdeal.Facts] [hPre_ten_above : Cert.Pre_ten_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ten_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_ten_above [hReferenceIdeal : Cert.ReferenceIdeal.Facts] [hPre_ten_above : Cert.Pre_ten_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ten_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_ten_above [hKernelIdeal : Cert.KernelIdeal.Facts] [hReferenceIdeal : Cert.ReferenceIdeal.Facts] [hPre_ten_above : Cert.Pre_ten_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ten_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_ten_above : Cert.Pre_ten_above.Facts),
    quiescent_Kernel (hKernel := hKernel)
    ∧ quiescent_KernelIdeal (hKernelIdeal := hKernelIdeal)
    ∧ quiescent_KernelIdeal_pre_ten_above (hKernelIdeal := hKernelIdeal) (hPre_ten_above := hPre_ten_above)
    ∧ quiescent_ReferenceIdeal (hReferenceIdeal := hReferenceIdeal)
    ∧ quiescent_ReferenceIdeal_pre_ten_above (hReferenceIdeal := hReferenceIdeal) (hPre_ten_above := hPre_ten_above)
    ∧ preserves_Kernel_KernelIdeal
    ∧ algebraic_KernelIdeal_ReferenceIdeal_pre_ten_above (hKernelIdeal := hKernelIdeal) (hReferenceIdeal := hReferenceIdeal) (hPre_ten_above := hPre_ten_above)
-- ==== Pre_ten_above.lean ====
abbrev S128x32768 : Shape := ⟨2, ![128, 32768]⟩
abbrev S128x10 : Shape := ⟨2, ![128, 10]⟩
abbrev S_ : Shape := ⟨0, ![]⟩

class Facts : Prop where
  sliceFits_S128x32768_S128x10 : S128x32768.Slices (fun _ => 0) S128x10
  bcast_S_S128x10 : S_.BroadcastsInDim S128x10 (![] : Fin 0 → Fin S128x10.rank)
  reducesTo_S128x10_S_d0_1 : S128x10.ReducesTo [0, 1] S_
  h_S_ : 0 < S_.numel

variable [Facts]

def fn {F : FTy → Type} [FloatOps F] (main_arg0 : FVec F S128x32768 .f32) : IVec S_ 1 :=
  let main_values : FVec F S128x10 .f32 := (fun x => (Host.topK S128x10 1 (FloatOps.cmpfTotal .gt) x sliceFits_S128x32768_S128x10).1) main_arg0
  let main_indices : IVec S128x10 32 := (fun x => (Host.topK S128x10 1 (FloatOps.cmpfTotal .gt) x sliceFits_S128x32768_S128x10).2) main_arg0
  let main_cst : FVec F S_ .f32 := constant S_ .f32 0xFF800000#32
  let main_v0 : FVec F S128x10 .f32 := broadcastInDim S128x10 ![] bcast_S_S128x10 main_cst
  let main_v1 : IVec S128x10 1 := cmpf .ogt main_values main_v0
  let main_c : IVec S_ 1 := constantI S_ 1 1#1
  let main_v2 : IVec S_ 1 := (fun x v => Host.reduce IntOp.andi x v reducesTo_S128x10_S_d0_1 h_S_) main_v1 main_c
  main_v2
-- ==== Kernel.lean ====
abbrev S128x32768 : Shape := ⟨2, ![128, 32768]⟩
abbrev S128x256x128 : Shape := ⟨3, ![128, 256, 128]⟩
abbrev S128x320x8x128 : Shape := ⟨4, ![128, 320, 8, 128]⟩
abbrev S1x256x128 : Shape := ⟨3, ![1, 256, 128]⟩
abbrev S1x40x8x128 : Shape := ⟨4, ![1, 40, 8, 128]⟩
abbrev S10 : Shape := ⟨1, ![10]⟩
abbrev S256x128 : Shape := ⟨2, ![256, 128]⟩
abbrev S1 : Shape := ⟨1, ![1]⟩
abbrev S1x1x1 : Shape := ⟨3, ![1, 1, 1]⟩
abbrev S1x8x128 : Shape := ⟨3, ![1, 8, 128]⟩
abbrev S1x1x8x128 : Shape := ⟨4, ![1, 1, 8, 128]⟩
abbrev S128x32768x10 : Shape := ⟨3, ![128, 32768, 10]⟩

abbrev nBuf : Space → Nat
  | .hbm => 4
  | .vmem => 5
  | .smem => 1
  | _ => 0

abbrev bufTy : (tb : Table) → Fin (tcTables nBuf tb) → BufTy
  | .hbm, ⟨0, _⟩ => ⟨S128x32768, .f32⟩
  | .hbm, ⟨1, _⟩ => ⟨S128x256x128, .f32⟩
  | .hbm, ⟨2, _⟩ => ⟨S128x320x8x128, .f32⟩
  | .hbm, ⟨3, _⟩ => ⟨S128x32768x10, .f32⟩
  | .local _ .vmem, ⟨0, _⟩ => ⟨S1x256x128, .f32⟩
  | .local _ .vmem, ⟨1, _⟩ => ⟨S1x256x128, .f32⟩
  | .local _ .vmem, ⟨2, _⟩ => ⟨S1x40x8x128, .f32⟩
  | .local _ .vmem, ⟨3, _⟩ => ⟨S1x40x8x128, .f32⟩
  | .local _ .vmem, ⟨4, _⟩ => ⟨S256x128, .f32⟩
  | .local _ .smem, ⟨0, _⟩ => ⟨S10, .i32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch1 : Ref sig .tc := ⟨.vmem, 4, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![128, 8], ![false, false]⟩

def k0_off1 (i : grid0.Coords) (v8 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v9 : BitVec 32 := Scalar.subi v8 v5
  let c0_i32_35 : BitVec 32 := 0#32
  let v79 : BitVec 1 := Scalar.cmpi .sgt v9 c0_i32_35
  let v80 : BitVec 32 := Scalar.extui v79
  let c0_i32_36 : BitVec 32 := 0#32
  let v81 : BitVec 1 := Scalar.cmpi .slt v9 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v9 c1024_i32
  let c0_i32_39 : BitVec 32 := 0#32
  let v91 : BitVec 1 := Scalar.cmpi .ne v90 c0_i32_39
  let v92 : BitVec 1 := Scalar.andi v89 v91
  let v78 : BitVec 32 := Scalar.divsi v9 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond2 (i : grid0.Coords) (v8 : BitVec 32) : BitVec 1 :=
  let arg1 : BitVec 32 := BitVec.ofNat 32 (i 1).val
  let c40960_i32 : BitVec 32 := 40960#32
  let v5 : BitVec 32 := Scalar.muli arg1 c40960_i32
  let v9 : BitVec 32 := Scalar.subi v8 v5
  let c0_i32_5 : BitVec 32 := 0#32
  let v10 : BitVec 1 := Scalar.cmpi .sge v9 c0_i32_5
  let c40960_i32_6 : BitVec 32 := 40960#32
  let v11 : BitVec 1 := Scalar.cmpi .slt v9 c40960_i32_6
  let v12 : BitVec 1 := Scalar.andi v10 v11
  let v13 : BitVec 32 := Scalar.extui v12
  let c0_i32_7 : BitVec 32 := 0#32
  let v14 : BitVec 1 := Scalar.cmpi .ne v13 c0_i32_7
  v14

def k0_chk1 (i : grid0.Coords) (v8 : BitVec 32) : Prop :=
  (∀ (k0_h2 : k0_cond2 i v8 = 1#1), ∀ a, (k0_off1 i v8) a + S1x1x8x128.size a ≤ S1x40x8x128.size a)
theorem k0_off1_inb : ∀ (i : grid0.Coords) (v8 : BitVec 32) (k0_hw1 : k0_chk1 i v8), ∀ (k0_h2 : k0_cond2 i v8 = 1#1), ∀ a, (k0_off1 i v8) a + S1x1x8x128.size a ≤ S1x40x8x128.size a := fun i v8 k0_hw1 k0_h2 => k0_hw1 k0_h2

def k0_off2 (i : grid0.Coords) (v15 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v16 : BitVec 32 := Scalar.subi v15 v5
  let c0_i32_35 : BitVec 32 := 0#32
  let v79 : BitVec 1 := Scalar.cmpi .sgt v16 c0_i32_35
  let v80 : BitVec 32 := Scalar.extui v79
  let c0_i32_36 : BitVec 32 := 0#32
  let v81 : BitVec 1 := Scalar.cmpi .slt v16 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v16 c1024_i32
  let c0_i32_39 : BitVec 32 := 0#32
  let v91 : BitVec 1 := Scalar.cmpi .ne v90 c0_i32_39
  let v92 : BitVec 1 := Scalar.andi v89 v91
  let v78 : BitVec 32 := Scalar.divsi v16 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond3 (i : grid0.Coords) (v15 : BitVec 32) : BitVec 1 :=
  let arg1 : BitVec 32 := BitVec.ofNat 32 (i 1).val
  let c40960_i32 : BitVec 32 := 40960#32
  let v5 : BitVec 32 := Scalar.muli arg1 c40960_i32
  let v16 : BitVec 32 := Scalar.subi v15 v5
  let c0_i32_8 : BitVec 32 := 0#32
  let v17 : BitVec 1 := Scalar.cmpi .sge v16 c0_i32_8
  let c40960_i32_9 : BitVec 32 := 40960#32
  let v18 : BitVec 1 := Scalar.cmpi .slt v16 c40960_i32_9
  let v19 : BitVec 1 := Scalar.andi v17 v18
  let v20 : BitVec 32 := Scalar.extui v19
  let c0_i32_10 : BitVec 32 := 0#32
  let v21 : BitVec 1 := Scalar.cmpi .ne v20 c0_i32_10
  v21

def k0_chk2 (i : grid0.Coords) (v15 : BitVec 32) : Prop :=
  (∀ (k0_h3 : k0_cond3 i v15 = 1#1), ∀ a, (k0_off2 i v15) a + S1x1x8x128.size a ≤ S1x40x8x128.size a)
theorem k0_off2_inb : ∀ (i : grid0.Coords) (v15 : BitVec 32) (k0_hw2 : k0_chk2 i v15), ∀ (k0_h3 : k0_cond3 i v15 = 1#1), ∀ a, (k0_off2 i v15) a + S1x1x8x128.size a ≤ S1x40x8x128.size a := fun i v15 k0_hw2 k0_h3 => k0_hw2 k0_h3

def k0_off3 (i : grid0.Coords) (v22 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v23 : BitVec 32 := Scalar.subi v22 v5
  let c0_i32_35 : BitVec 32 := 0#32
  let v79 : BitVec 1 := Scalar.cmpi .sgt v23 c0_i32_35
  let v80 : BitVec 32 := Scalar.extui v79
  let c0_i32_36 : BitVec 32 := 0#32
  let v81 : BitVec 1 := Scalar.cmpi .slt v23 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v23 c1024_i32
  let c0_i32_39 : BitVec 32 := 0#32
  let v91 : BitVec 1 := Scalar.cmpi .ne v90 c0_i32_39
  let v92 : BitVec 1 := Scalar.andi v89 v91
  let v78 : BitVec 32 := Scalar.divsi v23 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond4 (i : grid0.Coords) (v22 : BitVec 32) : BitVec 1 :=
  let arg1 : BitVec 32 := BitVec.ofNat 32 (i 1).val
  let c40960_i32 : BitVec 32 := 40960#32
  let v5 : BitVec 32 := Scalar.muli arg1 c40960_i32
  let v23 : BitVec 32 := Scalar.subi v22 v5
  let c0_i32_11 : BitVec 32 := 0#32
  let v24 : BitVec 1 := Scalar.cmpi .sge v23 c0_i32_11
  let c40960_i32_12 : BitVec 32 := 40960#32
  let v25 : BitVec 1 := Scalar.cmpi .slt v23 c40960_i32_12
  let v26 : BitVec 1 := Scalar.andi v24 v25
  let v27 : BitVec 32 := Scalar.extui v26
  let c0_i32_13 : BitVec 32 := 0#32
  let v28 : BitVec 1 := Scalar.cmpi .ne v27 c0_i32_13
  v28

def k0_chk3 (i : grid0.Coords) (v22 : BitVec 32) : Prop :=
  (∀ (k0_h4 : k0_cond4 i v22 = 1#1), ∀ a, (k0_off3 i v22) a + S1x1x8x128.size a ≤ S1x40x8x128.size a)
theorem k0_off3_inb : ∀ (i : grid0.Coords) (v22 : BitVec 32) (k0_hw3 : k0_chk3 i v22), ∀ (k0_h4 : k0_cond4 i v22 = 1#1), ∀ a, (k0_off3 i v22) a + S1x1x8x128.size a ≤ S1x40x8x128.size a := fun i v22 k0_hw3 k0_h4 => k0_hw3 k0_h4

def k0_off4 (i : grid0.Coords) (v29 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v30 : BitVec 32 := Scalar.subi v29 v5
  let c0_i32_35 : BitVec 32 := 0#32
  let v79 : BitVec 1 := Scalar.cmpi .sgt v30 c0_i32_35
  let v80 : BitVec 32 := Scalar.extui v79
  let c0_i32_36 : BitVec 32 := 0#32
  let v81 : BitVec 1 := Scalar.cmpi .slt v30 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v30 c1024_i32
  let c0_i32_39 : BitVec 32 := 0#32
  let v91 : BitVec 1 := Scalar.cmpi .ne v90 c0_i32_39
  let v92 : BitVec 1 := Scalar.andi v89 v91
  let v78 : BitVec 32 := Scalar.divsi v30 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond5 (i : grid0.Coords) (v29 : BitVec 32) : BitVec 1 :=
  let arg1 : BitVec 32 := BitVec.ofNat 32 (i 1).val
  let c40960_i32 : BitVec 32 := 40960#32
  let v5 : BitVec 32 := Scalar.muli arg1 c40960_i32
  let v30 : BitVec 32 := Scalar.subi v29 v5
  let c0_i32_14 : BitVec 32 := 0#32
  let v31 : BitVec 1 := Scalar.cmpi .sge v30 c0_i32_14
  let c40960_i32_15 : BitVec 32 := 40960#32
  let v32 : BitVec 1 := Scalar.cmpi .slt v30 c40960_i32_15
  let v33 : BitVec 1 := Scalar.andi v31 v32
  let v34 : BitVec 32 := Scalar.extui v33
  let c0_i32_16 : BitVec 32 := 0#32
  let v35 : BitVec 1 := Scalar.cmpi .ne v34 c0_i32_16
  v35

def k0_chk4 (i : grid0.Coords) (v29 : BitVec 32) : Prop :=
  (∀ (k0_h5 : k0_cond5 i v29 = 1#1), ∀ a, (k0_off4 i v29) a + S1x1x8x128.size a ≤ S1x40x8x128.size a)
theorem k0_off4_inb : ∀ (i : grid0.Coords) (v29 : BitVec 32) (k0_hw4 : k0_chk4 i v29), ∀ (k0_h5 : k0_cond5 i v29 = 1#1), ∀ a, (k0_off4 i v29) a + S1x1x8x128.size a ≤ S1x40x8x128.size a := fun i v29 k0_hw4 k0_h5 => k0_hw4 k0_h5

def k0_off5 (i : grid0.Coords) (v36 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v37 : BitVec 32 := Scalar.subi v36 v5
  let c0_i32_35 : BitVec 32 := 0#32
  let v79 : BitVec 1 := Scalar.cmpi .sgt v37 c0_i32_35
  let v80 : BitVec 32 := Scalar.extui v79
  let c0_i32_36 : BitVec 32 := 0#32
  let v81 : BitVec 1 := Scalar.cmpi .slt v37 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v37 c1024_i32
  let c0_i32_39 : BitVec 32 := 0#32
  let v91 : BitVec 1 := Scalar.cmpi .ne v90 c0_i32_39
  let v92 : BitVec 1 := Scalar.andi v89 v91
  let v78 : BitVec 32 := Scalar.divsi v37 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond6 (i : grid0.Coords) (v36 : BitVec 32) : BitVec 1 :=
  let arg1 : BitVec 32 := BitVec.ofNat 32 (i 1).val
  let c40960_i32 : BitVec 32 := 40960#32
  let v5 : BitVec 32 := Scalar.muli arg1 c40960_i32
  let v37 : BitVec 32 := Scalar.subi v36 v5
  let c0_i32_17 : BitVec 32 := 0#32
  let v38 : BitVec 1 := Scalar.cmpi .sge v37 c0_i32_17
  let c40960_i32_18 : BitVec 32 := 40960#32
  let v39 : BitVec 1 := Scalar.cmpi .slt v37 c40960_i32_18
  let v40 : BitVec 1 := Scalar.andi v38 v39
  let v41 : BitVec 32 := Scalar.extui v40
  let c0_i32_19 : BitVec 32 := 0#32
  let v42 : BitVec 1 := Scalar.cmpi .ne v41 c0_i32_19
  v42

def k0_chk5 (i : grid0.Coords) (v36 : BitVec 32) : Prop :=
  (∀ (k0_h6 : k0_cond6 i v36 = 1#1), ∀ a, (k0_off5 i v36) a + S1x1x8x128.size a ≤ S1x40x8x128.size a)
theorem k0_off5_inb : ∀ (i : grid0.Coords) (v36 : BitVec 32) (k0_hw5 : k0_chk5 i v36), ∀ (k0_h6 : k0_cond6 i v36 = 1#1), ∀ a, (k0_off5 i v36) a + S1x1x8x128.size a ≤ S1x40x8x128.size a := fun i v36 k0_hw5 k0_h6 => k0_hw5 k0_h6

def k0_off6 (i : grid0.Coords) (v43 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v44 : BitVec 32 := Scalar.subi v43 v5
  let c0_i32_35 : BitVec 32 := 0#32
  let v79 : BitVec 1 := Scalar.cmpi .sgt v44 c0_i32_35
  let v80 : BitVec 32 := Scalar.extui v79
  let c0_i32_36 : BitVec 32 := 0#32
  let v81 : BitVec 1 := Scalar.cmpi .slt v44 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v44 c1024_i32
  let c0_i32_39 : BitVec 32 := 0#32
  let v91 : BitVec 1 := Scalar.cmpi .ne v90 c0_i32_39
  let v92 : BitVec 1 := Scalar.andi v89 v91
  let v78 : BitVec 32 := Scalar.divsi v44 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond7 (i : grid0.Coords) (v43 : BitVec 32) : BitVec 1 :=
  let arg1 : BitVec 32 := BitVec.ofNat 32 (i 1).val
  let c40960_i32 : BitVec 32 := 40960#32
  let v5 : BitVec 32 := Scalar.muli arg1 c40960_i32
  let v44 : BitVec 32 := Scalar.subi v43 v5
  let c0_i32_20 : BitVec 32 := 0#32
  let v45 : BitVec 1 := Scalar.cmpi .sge v44 c0_i32_20
  let c40960_i32_21 : BitVec 32 := 40960#32
  let v46 : BitVec 1 := Scalar.cmpi .slt v44 c40960_i32_21
  let v47 : BitVec 1 := Scalar.andi v45 v46
  let v48 : BitVec 32 := Scalar.extui v47
  let c0_i32_22 : BitVec 32 := 0#32
  let v49 : BitVec 1 := Scalar.cmpi .ne v48 c0_i32_22
  v49

def k0_chk6 (i : grid0.Coords) (v43 : BitVec 32) : Prop :=
  (∀ (k0_h7 : k0_cond7 i v43 = 1#1), ∀ a, (k0_off6 i v43) a + S1x1x8x128.size a ≤ S1x40x8x128.size a)
theorem k0_off6_inb : ∀ (i : grid0.Coords) (v43 : BitVec 32) (k0_hw6 : k0_chk6 i v43), ∀ (k0_h7 : k0_cond7 i v43 = 1#1), ∀ a, (k0_off6 i v43) a + S1x1x8x128.size a ≤ S1x40x8x128.size a := fun i v43 k0_hw6 k0_h7 => k0_hw6 k0_h7

def k0_off7 (i : grid0.Coords) (v50 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v51 : BitVec 32 := Scalar.subi v50 v5
  let c0_i32_35 : BitVec 32 := 0#32
  let v79 : BitVec 1 := Scalar.cmpi .sgt v51 c0_i32_35
  let v80 : BitVec 32 := Scalar.extui v79
  let c0_i32_36 : BitVec 32 := 0#32
  let v81 : BitVec 1 := Scalar.cmpi .slt v51 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v51 c1024_i32
  let c0_i32_39 : BitVec 32 := 0#32
  let v91 : BitVec 1 := Scalar.cmpi .ne v90 c0_i32_39
  let v92 : BitVec 1 := Scalar.andi v89 v91
  let v78 : BitVec 32 := Scalar.divsi v51 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond8 (i : grid0.Coords) (v50 : BitVec 32) : BitVec 1 :=
  let arg1 : BitVec 32 := BitVec.ofNat 32 (i 1).val
  let c40960_i32 : BitVec 32 := 40960#32
  let v5 : BitVec 32 := Scalar.muli arg1 c40960_i32
  let v51 : BitVec 32 := Scalar.subi v50 v5
  let c0_i32_23 : BitVec 32 := 0#32
  let v52 : BitVec 1 := Scalar.cmpi .sge v51 c0_i32_23
  let c40960_i32_24 : BitVec 32 := 40960#32
  let v53 : BitVec 1 := Scalar.cmpi .slt v51 c40960_i32_24
  let v54 : BitVec 1 := Scalar.andi v52 v53
  let v55 : BitVec 32 := Scalar.extui v54
  let c0_i32_25 : BitVec 32 := 0#32
  let v56 : BitVec 1 := Scalar.cmpi .ne v55 c0_i32_25
  v56

def k0_chk7 (i : grid0.Coords) (v50 : BitVec 32) : Prop :=
  (∀ (k0_h8 : k0_cond8 i v50 = 1#1), ∀ a, (k0_off7 i v50) a + S1x1x8x128.size a ≤ S1x40x8x128.size a)
theorem k0_off7_inb : ∀ (i : grid0.Coords) (v50 : BitVec 32) (k0_hw7 : k0_chk7 i v50), ∀ (k0_h8 : k0_cond8 i v50 = 1#1), ∀ a, (k0_off7 i v50) a + S1x1x8x128.size a ≤ S1x40x8x128.size a := fun i v50 k0_hw7 k0_h8 => k0_hw7 k0_h8

def k0_off8 (i : grid0.Coords) (v57 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v58 : BitVec 32 := Scalar.subi v57 v5
  let c0_i32_35 : BitVec 32 := 0#32
  let v79 : BitVec 1 := Scalar.cmpi .sgt v58 c0_i32_35
  let v80 : BitVec 32 := Scalar.extui v79
  let c0_i32_36 : BitVec 32 := 0#32
  let v81 : BitVec 1 := Scalar.cmpi .slt v58 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v58 c1024_i32
  let c0_i32_39 : BitVec 32 := 0#32
  let v91 : BitVec 1 := Scalar.cmpi .ne v90 c0_i32_39
  let v92 : BitVec 1 := Scalar.andi v89 v91
  let v78 : BitVec 32 := Scalar.divsi v58 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond9 (i : grid0.Coords) (v57 : BitVec 32) : BitVec 1 :=
  let arg1 : BitVec 32 := BitVec.ofNat 32 (i 1).val
  let c40960_i32 : BitVec 32 := 40960#32
  let v5 : BitVec 32 := Scalar.muli arg1 c40960_i32
  let v58 : BitVec 32 := Scalar.subi v57 v5
  let c0_i32_26 : BitVec 32 := 0#32
  let v59 : BitVec 1 := Scalar.cmpi .sge v58 c0_i32_26
  let c40960_i32_27 : BitVec 32 := 40960#32
  let v60 : BitVec 1 := Scalar.cmpi .slt v58 c40960_i32_27
  let v61 : BitVec 1 := Scalar.andi v59 v60
  let v62 : BitVec 32 := Scalar.extui v61
  let c0_i32_28 : BitVec 32 := 0#32
  let v63 : BitVec 1 := Scalar.cmpi .ne v62 c0_i32_28
  v63

def k0_chk8 (i : grid0.Coords) (v57 : BitVec 32) : Prop :=
  (∀ (k0_h9 : k0_cond9 i v57 = 1#1), ∀ a, (k0_off8 i v57) a + S1x1x8x128.size a ≤ S1x40x8x128.size a)
theorem k0_off8_inb : ∀ (i : grid0.Coords) (v57 : BitVec 32) (k0_hw8 : k0_chk8 i v57), ∀ (k0_h9 : k0_cond9 i v57 = 1#1), ∀ a, (k0_off8 i v57) a + S1x1x8x128.size a ≤ S1x40x8x128.size a := fun i v57 k0_hw8 k0_h9 => k0_hw8 k0_h9

def k0_off9 (i : grid0.Coords) (v64 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v65 : BitVec 32 := Scalar.subi v64 v5
  let c0_i32_35 : BitVec 32 := 0#32
  let v79 : BitVec 1 := Scalar.cmpi .sgt v65 c0_i32_35
  let v80 : BitVec 32 := Scalar.extui v79
  let c0_i32_36 : BitVec 32 := 0#32
  let v81 : BitVec 1 := Scalar.cmpi .slt v65 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v65 c1024_i32
  let c0_i32_39 : BitVec 32 := 0#32
  let v91 : BitVec 1 := Scalar.cmpi .ne v90 c0_i32_39
  let v92 : BitVec 1 := Scalar.andi v89 v91
  let v78 : BitVec 32 := Scalar.divsi v65 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond10 (i : grid0.Coords) (v64 : BitVec 32) : BitVec 1 :=
  let arg1 : BitVec 32 := BitVec.ofNat 32 (i 1).val
  let c40960_i32 : BitVec 32 := 40960#32
  let v5 : BitVec 32 := Scalar.muli arg1 c40960_i32
  let v65 : BitVec 32 := Scalar.subi v64 v5
  let c0_i32_29 : BitVec 32 := 0#32
  let v66 : BitVec 1 := Scalar.cmpi .sge v65 c0_i32_29
  let c40960_i32_30 : BitVec 32 := 40960#32
  let v67 : BitVec 1 := Scalar.cmpi .slt v65 c40960_i32_30
  let v68 : BitVec 1 := Scalar.andi v66 v67
  let v69 : BitVec 32 := Scalar.extui v68
  let c0_i32_31 : BitVec 32 := 0#32
  let v70 : BitVec 1 := Scalar.cmpi .ne v69 c0_i32_31
  v70

def k0_chk9 (i : grid0.Coords) (v64 : BitVec 32) : Prop :=
  (∀ (k0_h10 : k0_cond10 i v64 = 1#1), ∀ a, (k0_off9 i v64) a + S1x1x8x128.size a ≤ S1x40x8x128.size a)
theorem k0_off9_inb : ∀ (i : grid0.Coords) (v64 : BitVec 32) (k0_hw9 : k0_chk9 i v64), ∀ (k0_h10 : k0_cond10 i v64 = 1#1), ∀ a, (k0_off9 i v64) a + S1x1x8x128.size a ≤ S1x40x8x128.size a := fun i v64 k0_hw9 k0_h10 => k0_hw9 k0_h10

def k0_off10 (i : grid0.Coords) (v71 : BitVec 32) : Fin 4 → Nat :=
  let c0_48 : Index := 0#32
  let arg1 : BitVec 32 := BitVec.ofNat 32 (i 1).val
  let c40960_i32 : BitVec 32 := 40960#32
  let v5 : BitVec 32 := Scalar.muli arg1 c40960_i32
  let v72 : BitVec 32 := Scalar.subi v71 v5
  let c0_i32_35 : BitVec 32 := 0#32
  let v79 : BitVec 1 := Scalar.cmpi .sgt v72 c0_i32_35
  let v80 : BitVec 32 := Scalar.extui v79
  let c0_i32_36 : BitVec 32 := 0#32
  let v81 : BitVec 1 := Scalar.cmpi .slt v72 c0_i32_36
  let v82 : BitVec 32 := Scalar.extui v81
  let v83 : BitVec 32 := Scalar.subi v80 v82
  let c1024_i32 : BitVec 32 := 1024#32
  let c0_i32_37 : BitVec 32 := 0#32
  let v84 : BitVec 1 := Scalar.cmpi .sgt c1024_i32 c0_i32_37
  let v85 : BitVec 32 := Scalar.extui v84
  let c0_i32_38 : BitVec 32 := 0#32
  let v86 : BitVec 1 := Scalar.cmpi .slt c1024_i32 c0_i32_38
  let v87 : BitVec 32 := Scalar.extui v86
  let v88 : BitVec 32 := Scalar.subi v85 v87
  let v89 : BitVec 1 := Scalar.cmpi .ne v83 v88
  let v90 : BitVec 32 := Scalar.remsi v72 c1024_i32
  let c0_i32_39 : BitVec 32 := 0#32
  let v91 : BitVec 1 := Scalar.cmpi .ne v90 c0_i32_39
  let v92 : BitVec 1 := Scalar.andi v89 v91
  let v78 : BitVec 32 := Scalar.divsi v72 c1024_i32
  let c1_i32 : BitVec 32 := 1#32
  let v93 : BitVec 32 := Scalar.subi v78 c1_i32
  let v94 : BitVec 32 := Scalar.select v92 v93 v78
  let v116 : Index := Scalar.indexCast v94
  let c0_49 : Index := 0#32
  let c0_50 : Index := 0#32
  ![0, v116.toNat, 0, 0]
def k0_cond11 (i : grid0.Coords) (v71 : BitVec 32) : BitVec 1 :=
  let arg1 : BitVec 32 := BitVec.ofNat 32 (i 1).val
  let c40960_i32 : BitVec 32 := 40960#32
  let v5 : BitVec 32 := Scalar.muli arg1 c40960_i32
  let v72 : BitVec 32 := Scalar.subi v71 v5
  let c0_i32_32 : BitVec 32 := 0#32
  let v73 : BitVec 1 := Scalar.cmpi .sge v72 c0_i32_32
  let c40960_i32_33 : BitVec 32 := 40960#32
  let v74 : BitVec 1 := Scalar.cmpi .slt v72 c40960_i32_33
  let v75 : BitVec 1 := Scalar.andi v73 v74
  let v76 : BitVec 32 := Scalar.extui v75
  let c0_i32_34 : BitVec 32 := 0#32
  let v77 : BitVec 1 := Scalar.cmpi .ne v76 c0_i32_34
  v77

def k0_chk10 (i : grid0.Coords) (v71 : BitVec 32) : Prop :=
  (∀ (k0_h11 : k0_cond11 i v71 = 1#1), ∀ a, (k0_off10 i v71) a + S1x1x8x128.size a ≤ S1x40x8x128.size a)
theorem k0_off10_inb : ∀ (i : grid0.Coords) (v71 : BitVec 32) (k0_hw10 : k0_chk10 i v71), ∀ (k0_h11 : k0_cond11 i v71 = 1#1), ∀ a, (k0_off10 i v71) a + S1x1x8x128.size a ≤ S1x40x8x128.size a := fun i v71 k0_hw10 k0_h11 => k0_hw10 k0_h11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x40x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S128x32768 : Shape := ⟨2, ![128, 32768]⟩
abbrev S128x10 : Shape := ⟨2, ![128, 10]⟩
abbrev S128x10x1 : Shape := ⟨3, ![128, 10, 1]⟩
abbrev S1x1x32768 : Shape := ⟨3, ![1, 1, 32768]⟩
abbrev S128x10x32768 : Shape := ⟨3, ![128, 10, 32768]⟩
abbrev S128x32768x10 : Shape := ⟨3, ![128, 32768, 10]⟩

abbrev nBuf : Space → Nat
  | .hbm => 11
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x10, .f32⟩
  | .hbm, ⟨2, _⟩ => ⟨S128x10, .i32⟩
  | .hbm, ⟨3, _⟩ => ⟨S128x10, .i32⟩
  | .hbm, ⟨4, _⟩ => ⟨S128x10x1, .i32⟩
  | .hbm, ⟨5, _⟩ => ⟨S1x1x32768, .i32⟩
  | .hbm, ⟨6, _⟩ => ⟨S128x10x32768, .i32⟩
  | .hbm, ⟨7, _⟩ => ⟨S128x10x32768, .i32⟩
  | .hbm, ⟨8, _⟩ => ⟨S128x10x32768, .i1⟩
  | .hbm, ⟨9, _⟩ => ⟨S128x10x32768, .f32⟩
  | .hbm, ⟨10, _⟩ => ⟨S128x32768x10, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_call1_v0 : Ref sig .tc := ⟨.hbm, 4, rfl⟩
abbrev main_call1_v1 : Ref sig .tc := ⟨.hbm, 5, rfl⟩
abbrev main_call1_v2 : Ref sig .tc := ⟨.hbm, 6, rfl⟩
abbrev main_call1_v3 : Ref sig .tc := ⟨.hbm, 7, rfl⟩
abbrev main_call1_v4 : Ref sig .tc := ⟨.hbm, 8, rfl⟩
abbrev main_v1 : Ref sig .tc := ⟨.hbm, 9, rfl⟩
abbrev main_v2 : Ref sig .tc := ⟨.hbm, 10, rfl⟩

abbrev nD : Nat := 1
abbrev τ : Topo := Topo.v7x

variable {F : FTy → Type} [FloatOps F]
-- ==== Proof.Words.lean ====
module

public import Idealize.ShloMosaic.Lib.WordArith
public import Idealize.ShloMosaic.Lib.WordCmp
public import Idealize.ShloMosaic.Lib.Affine

/-!
Words: the floor division the kernel prints (`jnp`'s `//` on 32-bit integers), read as a division of naturals.
-/

@[expose] public section

namespace Cert.Words

open Idealize.ShloMosaic Idealize.ShloMosaic.WordArith Idealize.ShloMosaic.WordCmp

/-- The printed floor division `⌊w / d⌋`: the quotient, less one where the signs differ and the division leaves a rest. -/
abbrev fdiv (w d : BitVec 32) : BitVec 32 :=
  Scalar.select (Scalar.andi
      (Scalar.cmpi .ne (Scalar.subi (Scalar.extui (Scalar.cmpi .sgt w 0#32)) (Scalar.extui (Scalar.cmpi .slt w 0#32)))
        (Scalar.subi (Scalar.extui (Scalar.cmpi .sgt d 0#32)) (Scalar.extui (Scalar.cmpi .slt d 0#32))))
      (Scalar.cmpi .ne (Scalar.remsi w d) 0#32))
    (Scalar.subi (Scalar.divsi w d) 1#32) (Scalar.divsi w d)

theorem toNat_divsi (w : BitVec 32) (k : ℕ) (hw : w.toNat < 2 ^ 31) (hk : 0 < k) (hk' : k < 2 ^ 31) :
    (Scalar.divsi w (BitVec.ofNat 32 k)).toNat = w.toNat / k := by
  have hkN : (BitVec.ofNat 32 k).toNat = k := toNat_ofNat_of_lt k (by omega)
  have hm : w.msb = false := by rw [BitVec.msb_eq_false_iff_two_mul_lt]; omega
  have hkm : (BitVec.ofNat 32 k).msb = false := by rw [BitVec.msb_eq_false_iff_two_mul_lt]; omega
  have h0 : Scalar.divsi w (BitVec.ofNat 32 k) = w.sdiv (BitVec.ofNat 32 k) :=
    if_neg (IntOp.not_corner_of_pos (by rw [BitVec.toInt_eq_toNat_of_lt (by omega)]; omega))
  rw [h0, BitVec.sdiv_eq, hm, hkm]
  show (w / BitVec.ofNat 32 k).toNat = _
  rw [BitVec.toNat_udiv, hkN]

/-- On a word that is not negative, and a positive divisor, the printed floor division is the division of naturals. -/
theorem toNat_fdiv (w : BitVec 32) (k : ℕ) (hw : w.toNat < 2 ^ 31) (hk : 0 < k) (hk' : k < 2 ^ 31) :
    (fdiv w (BitVec.ofNat 32 k)).toNat = w.toNat / k := by
  have hkN : (BitVec.ofNat 32 k).toNat = k := toNat_ofNat_of_lt k (by omega)
  have hwI : w.toInt = w.toNat := BitVec.toInt_eq_toNat_of_lt (by omega)
  have hkI : (BitVec.ofNat 32 k).toInt = k := by rw [BitVec.toInt_eq_toNat_of_lt (by omega), hkN]
  have hz : (0#32 : BitVec 32).toInt = 0 := by decide
  have hsk : Scalar.subi (Scalar.extui (Scalar.cmpi .sgt (BitVec.ofNat 32 k) 0#32)) (Scalar.extui (Scalar.cmpi .slt (BitVec.ofNat 32 k) 0#32)) = 1#32 := by
    have h1 : Scalar.cmpi .sgt (BitVec.ofNat 32 k) 0#32 = 1#1 := by rw [Scalar.cmpi, IntOp.cmpi_sgt]; omega
    have h2 : Scalar.cmpi .slt (BitVec.ofNat 32 k) 0#32 = 0#1 := by
      rw [Scalar.cmpi, cmpi_slt_eq, decide_eq_false (by omega)]; rfl
    rw [h1, h2]; decide
  have hcond : Scalar.andi
      (Scalar.cmpi .ne (Scalar.subi (Scalar.extui (Scalar.cmpi .sgt w 0#32)) (Scalar.extui (Scalar.cmpi .slt w 0#32)))
        (Scalar.subi (Scalar.extui (Scalar.cmpi .sgt (BitVec.ofNat 32 k) 0#32)) (Scalar.extui (Scalar.cmpi .slt (BitVec.ofNat 32 k) 0#32))))
      (Scalar.cmpi .ne (Scalar.remsi w (BitVec.ofNat 32 k)) 0#32) = 0#1 := by
    rw [hsk]
    by_cases h : 0 < w.toNat
    · have h1 : Scalar.cmpi .sgt w 0#32 = 1#1 := by rw [Scalar.cmpi, IntOp.cmpi_sgt]; omega
      have h2 : Scalar.cmpi .slt w 0#32 = 0#1 := by
        rw [Scalar.cmpi, cmpi_slt_eq, decide_eq_false (by omega)]; rfl
      rw [h1, h2]
      generalize Scalar.cmpi .ne (Scalar.remsi w (BitVec.ofNat 32 k)) 0#32 = c
      revert c; decide
    · have hr : Scalar.remsi w (BitVec.ofNat 32 k) = 0#32 := by
        rw [Scalar.remsi, IntOp.remsi_eq_zero_iff _ (by omega) k hk (by omega)]
        rw [show w.toNat = 0 by omega]; exact dvd_zero k
      rw [hr]
      generalize Scalar.cmpi .ne (Scalar.subi (Scalar.extui (Scalar.cmpi .sgt w 0#32)) (Scalar.extui (Scalar.cmpi .slt w 0#32))) 1#32 = c
      revert c; decide
  unfold fdiv
  rw [select_of_eq_zero hcond, toNat_divsi w k hw hk hk']

/-- The remainder the kernel forms from a floor division: the word less the divisor times the quotient. -/
theorem toNat_sub_mul_fdiv (w : BitVec 32) (k : ℕ) (hw : w.toNat < 2 ^ 31) (hk : 0 < k) (hk' : k < 2 ^ 31) :
    (Scalar.subi w (Scalar.muli (fdiv w (BitVec.ofNat 32 k)) (BitVec.ofNat 32 k))).toNat = w.toNat % k := by
  have hkN : (BitVec.ofNat 32 k).toNat = k := toNat_ofNat_of_lt k (by omega)
  have hle : w.toNat / k * k ≤ w.toNat := Nat.div_mul_le_self _ _
  have hm : (Scalar.muli (fdiv w (BitVec.ofNat 32 k)) (BitVec.ofNat 32 k)).toNat = w.toNat / k * k := by
    show (fdiv w (BitVec.ofNat 32 k) * BitVec.ofNat 32 k).toNat = _
    rw [BitVec.toNat_mul, toNat_fdiv w k hw hk hk', hkN, Nat.mod_eq_of_lt (by omega)]
  show (w - Scalar.muli (fdiv w (BitVec.ofNat 32 k)) (BitVec.ofNat 32 k)).toNat = _
  rw [BitVec.toNat_sub_of_le (by rw [BitVec.le_def, hm]; exact hle), hm]
  have := Nat.div_add_mod w.toNat k
  rw [Nat.mul_comm] at this
  omega

/-- The guard of a block of `n` positions: the word is not negative and below `n`. -/
theorem guard_iff_lt (w : BitVec 32) (n : ℕ) (hn : n < 2 ^ 31) :
    Scalar.cmpi .ne (Scalar.extui (Scalar.andi (Scalar.cmpi .sge w 0#32) (Scalar.cmpi .slt w (BitVec.ofNat 32 n)))) 0#32 = 1#1
      ↔ w.toNat < n := by
  rw [Scalar.guard_iff, Scalar.andi, IntOp.andi_eq_one, Scalar.cmpi, Scalar.cmpi, IntOp.cmpi_sge, IntOp.cmpi_slt,
    show (0#32 : BitVec 32).toInt = 0 by decide, toInt_ofNat_small n hn]
  have hw := w.isLt
  have h := BitVec.toInt_eq_toNat_cond w
  split at h <;> omega

end Cert.Words
-- ==== Proof.Checks.lean ====
module

public import proofs.«01_k».proof.Proof.Gen.KernelIdeal.Frame
public import proofs.«01_k».proof.Proof.Words

@[expose] public section

set_option maxRecDepth 16384

noncomputable section

namespace Cert.KernelIdeal.Body

open Idealize.ShloMosaic Idealize.ShloMosaic.TcCoe Idealize.ShloMosaic.Tactic
open Cert.KernelIdeal Cert.Words

/-- The word less the first position of the point's block of the row. -/
abbrev localWord (i : grid0.Coords) (v : BitVec 32) : BitVec 32 :=
  Scalar.subi v (Scalar.muli (BitVec.ofNat 32 (i 1).val) 40960#32)

/-- The guard of a block of the body: the word's position lies in the point's block. -/
theorem cond_iff (i : grid0.Coords) (v : BitVec 32) : k0_cond2 i v = 1#1 ↔ (localWord i v).toNat < 40960 :=
  guard_iff_lt (localWord i v) 40960 (by decide)

/-- The offsets a guarded block reads and writes at: the tile of 1024 positions that holds the word's. -/
theorem off_eq (i : grid0.Coords) (v : BitVec 32) (h : k0_cond2 i v = 1#1) :
    k0_off1 i v = ![0, (localWord i v).toNat / 1024, 0, 0] := by
  have e : k0_off1 i v = ![0, (fdiv (localWord i v) 1024#32).toNat, 0, 0] := rfl
  have := (cond_iff i v).mp h
  rw [e, toNat_fdiv _ 1024 (by omega) (by decide) (by decide)]

/-- The side condition holds of every word: under the guard the tile lies in the block. -/
theorem chk (i : grid0.Coords) (v : BitVec 32) : k0_chk1 i v := fun h => by
  have := (cond_iff i v).mp h
  rw [off_eq i v h]
  intro a
  fin_cases a <;> simp [S1x1x8x128, S1x40x8x128] <;> omega

end Cert.KernelIdeal.Body

end
-- ==== Proof.Step.lean ====
module

public import proofs.«01_k».proof.Proof.Gen.KernelIdeal.Skeleton
public import proofs.«01_k».proof.Proof.Checks
public import Idealize.ShloMosaic.Lib.VecWindow
public import Idealize.ShloMosaic.Lib.PointwiseCore

@[expose] public section

set_option maxRecDepth 16384

noncomputable section

namespace Cert.KernelIdeal.Body

open Idealize.ShloMosaic Idealize.ShloMosaic.TcCoe Idealize.ShloMosaic.Tactic
open Cert.KernelIdeal Cert.KernelIdeal.Gen Cert.Words

variable {F : FTy → Type} [FloatOps F]

/-- The quotient and the rest, by 128, of the word's place in its tile of 1024: its row and its lane there. -/
abbrev tileWord (i : grid0.Coords) (v : BitVec 32) : BitVec 32 :=
  Scalar.subi (localWord i v) (Scalar.muli (fdiv (localWord i v) 1024#32) 1024#32)
abbrev rowWord (i : grid0.Coords) (v : BitVec 32) : BitVec 32 := fdiv (tileWord i v) 128#32
abbrev laneWord (i : grid0.Coords) (v : BitVec 32) : BitVec 32 :=
  Scalar.subi (tileWord i v) (Scalar.muli (rowWord i v) 128#32)

/-- What a guarded block adds at row `r`, lane `l` of its tile: the bit "this is the word's place", as a float. -/
def bitAt (F : FTy → Type) [FloatOps F] (i : grid0.Coords) (v : BitVec 32) (r : Fin 8) (l : Fin 128) : F .f32 :=
  FloatOps.sitofp .f32 ((IntOp.andi (IntOp.cmpi .eq (BitVec.ofNat 32 r.val) (rowWord i v)) (IntOp.cmpi .eq (BitVec.ofNat 32 l.val) (laneWord i v))).setWidth 32)

/-- One guarded block of the body on the output block `o`: under the guard, the tile that holds the word's position has
    the bit added at each of its places; every other tile stays. -/
def step (i : grid0.Coords) (v : BitVec 32) (o : Vec F S1x40x8x128 .f32) : Vec F S1x40x8x128 .f32 := fun y =>
  if (localWord i v).toNat < 40960 ∧ (y 1).val = (localWord i v).toNat / 1024 then
    FloatOps.addf (o y) (bitAt F i v (y 2) (y 3))
  else o y

/-- What a guarded block stores, at row `r`, lane `l` of the tile `X` it loaded. -/
theorem pay_apply (i : grid0.Coords) (v : BitVec 32) (X : Vec F S1x1x8x128 .f32) (r : Fin 8) (l : Fin 128) :
    k0_pay42 (rowWord i v) (laneWord i v) (k0_pay31 X) (ix4 (0 : Fin 1) (0 : Fin 1) r l)
      = FloatOps.addf (X (ix4 (0 : Fin 1) (0 : Fin 1) r l)) (bitAt F i v r l) := by
  unfold bitAt
  generalize rowWord i v = qr
  generalize laneWord i v = qc
  pointwise [k0_pay42, k0_pay31]

/-- A guarded block read back: the tile `X` it loads is the tile of `o` at its offsets, and what it stores is that tile with
    the bits added; over contents that read `o` it leaves contents that read `step i v o`. -/
theorem step_read {κ : Kind} {sp : Space} (w : View sig κ sp S1x40x8x128 .f32) (i : grid0.Coords) (v : BitVec 32)
    (o : Vec F S1x40x8x128 .f32) (g f : w.ty.Contents (Elt F)) (L : List (View.Piece (Elt F) S1x40x8x128 .f32))
    (hg : w.read (Elt F) (w.writes (Elt F) g L) = o) (hf : w.read (Elt F) f = o)
    (inb : k0_cond2 i v = 1#1 → ∀ a, k0_off1 i v a + S1x1x8x128.size a ≤ S1x40x8x128.size a)
    (X : k0_cond2 i v = 1#1 → Vec F S1x1x8x128 .f32)
    (hX : ∀ h, X h = VecWindow.window o (k0_off1 i v) S1x1x8x128.size (inb h)) :
    w.read (Elt F) (if h : k0_cond2 i v = 1#1 then
        w.writes (Elt F) g (⟨Rect.unit (k0_off1 i v) S1x1x8x128.size (inb h),
          k0_pay42 (rowWord i v) (laneWord i v) (k0_pay31 (X h))⟩ :: L)
      else f) = step i v o := by
  funext y
  by_cases h : k0_cond2 i v = 1#1
  · have hlt := (cond_iff i v).mp h
    rw [dif_pos h, View.read_writes_cons_unit w g (inb h) _ L y (off_eq i v h), hg, hX h]
    unfold step
    by_cases hy : (y 1).val = (localWord i v).toNat / 1024
    · have hin : ∀ a, (![0, (localWord i v).toNat / 1024, 0, 0] : Fin 4 → ℕ) a ≤ (y a).val
          ∧ (y a).val < (![0, (localWord i v).toNat / 1024, 0, 0] : Fin 4 → ℕ) a + S1x1x8x128.size a := fun a => by
        have := (y a).isLt
        fin_cases a <;> simp [S1x1x8x128, S1x40x8x128] at this ⊢ <;> omega
      rw [if_pos ⟨hlt, hy⟩, dif_pos hin]
      have hz : Rect.unitLocal (s := S1x40x8x128) (off := ![0, (localWord i v).toNat / 1024, 0, 0]) (size := S1x1x8x128.size) y hin
          = ix4 (0 : Fin 1) (0 : Fin 1) (y 2) (y 3) := funext fun a => Fin.ext (by
        rw [Rect.unitLocal_val]
        have h0 : (y 0).val < 1 := (y 0).isLt
        fin_cases a <;> simp [ix4] <;> omega)
      rw [hz]
      refine (pay_apply i v _ (y 2) (y 3)).trans (congrArg₂ FloatOps.addf (congrArg o (funext fun a => Fin.ext ?_)) rfl)
      show k0_off1 i v a + 1 * (ix4 (0 : Fin 1) (0 : Fin 1) (y 2) (y 3) a).val = (y a).val
      rw [off_eq i v h]
      have h0 : (y 0).val < 1 := (y 0).isLt
      fin_cases a <;> simp [ix4] <;> omega
    · rw [if_neg (fun h => hy h.2), dif_neg (fun hall => hy (by
        have := hall 1
        simp [S1x1x8x128] at this
        omega))]
  · rw [dif_neg h, hf]
    unfold step
    rw [if_neg (fun h' => h ((cond_iff i v).mpr h'.1))]

end Cert.KernelIdeal.Body

end
-- ==== Proof.Spec.lean ====
module

public import proofs.«01_k».proof.Proof.Step

/-!
What the body computes, as pure functions: the ten words of a row (`topWords`) and the output block of a point
(`outBlock`), at any values of the float operations.
-/

@[expose] public section

set_option maxRecDepth 16384

noncomputable section

namespace Cert.KernelIdeal.Body

open Idealize.ShloMosaic Idealize.ShloMosaic.TcCoe Idealize.ShloMosaic.Tactic
open Cert.KernelIdeal Cert.KernelIdeal.Gen Cert.Words

variable {F : FTy → Type} [FloatOps F]

/-- One round's choice: the least flat position at which the row holds its maximum. -/
def pick (s : Vec F S256x128 .f32) : BitVec 32 := extractAt ![0, 0, 0] (k0_pay11 k0_pay5 s) inpos_S1x1x1_p0_0_0
/-- One round's row: `−∞` at the position chosen. -/
def mask (s : Vec F S256x128 .f32) : Vec F S256x128 .f32 := k0_pay12 k0_pay5 s

/-- The row before round `k`. -/
def stage (x : Vec F S1x256x128 .f32) : ℕ → Vec F S256x128 .f32
  | 0 => k0_pay4 x
  | k + 1 => mask (stage x k)

/-- The rank of the `k`-th of ten words among them: how many of the others are below it, as the body sums it. -/
def rankWord (p : Fin 10 → BitVec 32) (k : Fin 10) : BitVec 32 :=
  ((List.finRange 10).filter fun m => m ≠ k).foldl
    (fun a m => Scalar.addi a (Scalar.extui (Scalar.cmpi .slt (p m) (p k)))) 0#32

/-- The ten words of ten rows: ten times the position chosen, and its rank. -/
def wordsOf (F : FTy → Type) (p : Fin 10 → BitVec 32) : Vec F S10 .i32 := fun y =>
  Scalar.addi (Scalar.muli (p (y 0)) 10#32) (rankWord p (y 0))

/-- The ten words the first point of a row's block stores. -/
def topWords (x : Vec F S1x256x128 .f32) : Vec F S10 .i32 := wordsOf F fun k => pick (stage x k.val)

/-- A point is the first of its row. -/
abbrev condFirst (i : grid0.Coords) : Prop :=
  (Scalar.cmpi .ne (Scalar.extui (Scalar.cmpi .eq (BitVec.ofNat 32 (i 1).val) 0#32)) 0#32) = 1#1

/-- The words after a point: at the first point of a row the row's, at any other those found. -/
def wordsAfter (i : grid0.Coords) (x : Vec F S1x256x128 .f32) (T : Vec F S10 .i32) : Vec F S10 .i32 :=
  if condFirst i then topWords x else T

/-- The output block of a point whose words are `W`: zeros, and a guarded block for each word. -/
def outBlock (i : grid0.Coords) (W : Vec F S10 .i32) : Vec F S1x40x8x128 .f32 :=
  (List.finRange 10).foldl (fun o j => step i (W (ix1 j)) o) k0_pay41

/-- The output block's ten steps, written out. -/
theorem outBlock_eq (i : grid0.Coords) (W : Vec F S10 .i32) :
    outBlock i W = step i (W (ix1 9)) (step i (W (ix1 8)) (step i (W (ix1 7)) (step i (W (ix1 6)) (step i (W (ix1 5))
      (step i (W (ix1 4)) (step i (W (ix1 3)) (step i (W (ix1 2)) (step i (W (ix1 1)) (step i (W (ix1 0)) k0_pay41))))))))) := rfl

end Cert.KernelIdeal.Body

end
-- ==== Proof.Body.lean ====
module

public import proofs.«01_k».proof.Proof.Spec
public import Idealize.ShloMosaic.Lib.CellWrites
public import Idealize.ShloMosaic.Lib.WholeRead
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

/-!
The kernel body's triple: run on whole memrefs, it leaves the input block, the point's output block and the row's words.
-/

@[expose] public section

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word loaded from contents that read `W` is `W`'s. -/
theorem word_read {κ : Kind} {sp : Space} (w : View sig κ sp S10 .i32) (f : w.ty.Contents (Elt F)) (W : Vec F S10 .i32)
    (hf : w.read (Elt F) f = W) (k : Fin 10) {n : ℕ} (hn : n = k.val) (inb : ∀ a, (![n] : Fin 1 → ℕ) a + S1.size a ≤ S10.size a)
    (z : (Rect.unit (s := S10) ![n] S1.size inb).shape.Idx) :
    w.readAt (Elt F) (Rect.unit (s := S10) ![n] S1.size inb).toLoadRect f z = W (ix1 k) := by
  subst hn
  rw [View.readAt_unit w f inb rfl inb, hf]
  refine congrArg W (funext fun a => Fin.ext ?_)
  obtain rfl : a = 0 := Subsingleton.elim _ _
  have hz : (z 0).val < 1 := (z 0).isLt
  show k.val + 1 * (z 0).val = k.val
  omega

/-- The words' scratch after the guarded stores of a row's ten words `u`. -/
theorem words_read {κ : Kind} {sp : Space} (w : View sig κ sp S10 .i32) (i : grid0.Coords) (x : Vec F S1x256x128 .f32)
    (f : w.ty.Contents (Elt F)) (T : Vec F S10 .i32) (hf : w.read (Elt F) f = T) (u : Fin 10 → BitVec 32)
    (hu : ∀ k, u k = topWords x (ix1 k)) (b0 b1 b2 b3 b4 b5 b6 b7 b8 b9) :
    w.read (Elt F) (if condFirst i then w.writes (Elt F) f [
        ⟨Rect.unit ![9] S1.size b9, fun _ => u 9⟩,
        ⟨Rect.unit ![8] S1.size b8, fun _ => u 8⟩,
        ⟨Rect.unit ![7] S1.size b7, fun _ => u 7⟩,
        ⟨Rect.unit ![6] S1.size b6, fun _ => u 6⟩,
        ⟨Rect.unit ![5] S1.size b5, fun _ => u 5⟩,
        ⟨Rect.unit ![4] S1.size b4, fun _ => u 4⟩,
        ⟨Rect.unit ![3] S1.size b3, fun _ => u 3⟩,
        ⟨Rect.unit ![2] S1.size b2, fun _ => u 2⟩,
        ⟨Rect.unit ![1] S1.size b1, fun _ => u 1⟩,
        ⟨Rect.unit ![0] S1.size b0, fun _ => u 0⟩]
      else f) = wordsAfter i x T := by
  unfold wordsAfter
  by_cases hc : condFirst i
  · rw [if_pos hc, if_pos hc]
    funext y
    obtain ⟨k, rfl⟩ : ∃ k : Fin 10, y = ix1 k := ⟨y 0, funext fun a => by obtain rfl : a = 0 := Subsingleton.elim _ _; rfl⟩
    rw [← hu k]
    fin_cases k <;> simp only [View.read_writes_cons_cell] <;> rfl
  · rw [if_neg hc, if_neg hc, hf]

/-- A word of the row's ten, its rank summed over the list `l` of the other nine. -/
theorem word_eq {x : Vec F S1x256x128 .f32} {p : Fin 10 → BitVec 32} (hp : topWords x = wordsOf F p) (k : Fin 10) (l : List (Fin 10))
    (hl : ((List.finRange 10).filter fun m => m ≠ k) = l) {u : BitVec 32}
    (hu : u = Scalar.addi (Scalar.muli (p k) 10#32)
      (l.foldl (fun a m => Scalar.addi a (Scalar.extui (Scalar.cmpi .slt (p m) (p k)))) 0#32)) : u = topWords x (ix1 k) := by
  rw [hp, hu, ← hl]; rfl

/-- `step_read` where the block's load and its store are of the same contents, the word being `v'`. -/
theorem step_read_same {κ : Kind} {sp : Space} (w : View sig κ sp S1x40x8x128 .f32) (i : grid0.Coords) (v v' : BitVec 32)
    (hv : v = v') (o : Vec F S1x40x8x128 .f32) (f : w.ty.Contents (Elt F)) (hf : w.read (Elt F) f = o)
    (inb : k0_cond2 i v = 1#1 → ∀ a, k0_off1 i v a + S1x1x8x128.size a ≤ S1x40x8x128.size a) :
    w.read (Elt F) (if h : k0_cond2 i v = 1#1 then
        w.writes (Elt F) f [⟨Rect.unit (k0_off1 i v) S1x1x8x128.size (inb h),
          k0_pay42 (rowWord i v) (laneWord i v)
            (k0_pay31 (w.readAt (Elt F) (Rect.unit (s := S1x40x8x128) (k0_off1 i v) S1x1x8x128.size (inb h)).toLoadRect f))⟩]
      else f) = step i v' o := by
  subst hv
  exact step_read w i v o f f [] hf hf inb _ fun h => by rw [View.readAt_unit w f (inb h) rfl (inb h), hf]

/-- `step_read` for the first block, over the stores `L` that the block's load reads. -/
theorem step_read_first {κ : Kind} {sp : Space} (w : View sig κ sp S1x40x8x128 .f32) (i : grid0.Coords) (v v' : BitVec 32)
    (hv : v = v') (o : Vec F S1x40x8x128 .f32) (g f : w.ty.Contents (Elt F)) (L : List (View.Piece (Elt F) S1x40x8x128 .f32))
    (hg : w.read (Elt F) (w.writes (Elt F) g L) = o) (hf : w.read (Elt F) f = o)
    (inb : k0_cond2 i v = 1#1 → ∀ a, k0_off1 i v a + S1x1x8x128.size a ≤ S1x40x8x128.size a) :
    w.read (Elt F) (if h : k0_cond2 i v = 1#1 then
        w.writes (Elt F) g (⟨Rect.unit (k0_off1 i v) S1x1x8x128.size (inb h),
          k0_pay42 (rowWord i v) (laneWord i v)
            (k0_pay31 (w.readAt (Elt F) (Rect.unit (s := S1x40x8x128) (k0_off1 i v) S1x1x8x128.size (inb h)).toLoadRect
              (w.writes (Elt F) g L)))⟩ :: L)
      else f) = step i v' o := by
  subst hv
  exact step_read w i v o g f L hg hf inb _ fun h => by rw [View.readAt_unit w _ (inb h) rfl (inb h), hg]

/-- Ten values as a function are the list of them. -/
theorem vec10 {α : Type} (f : Fin 10 → α) : f = ![f 0, f 1, f 2, f 3, f 4, f 5, f 6, f 7, f 8, f 9] := by
  funext k; fin_cases k <;> rfl

/-- A scratch's contents after one more round. -/
theorem next {a b s t : Vec F S256x128 .f32} (h : a = b) (hb : b = mask s) (hs : s = t) : a = mask t := h.trans (hb.trans (congrArg mask hs))

/-- Every round's row is `mask` of the one before. -/
theorem mask7 (s : Vec F S256x128 .f32) : k0_pay7 s = mask s := rfl
@[inherit_doc mask7] theorem mask10 (s : Vec F S256x128 .f32) : k0_pay10 k0_pay5 s (k0_pay8 s) = mask s := rfl
@[inherit_doc mask7] theorem mask12 (s : Vec F S256x128 .f32) : k0_pay12 k0_pay5 s = mask s := rfl
@[inherit_doc mask7] theorem mask15 (s : Vec F S256x128 .f32) : k0_pay15 k0_pay5 s (k0_pay13 k0_pay5 s) = mask s := rfl
@[inherit_doc mask7] theorem mask17 (s : Vec F S256x128 .f32) : k0_pay17 k0_pay5 s = mask s := rfl
@[inherit_doc mask7] theorem mask19 (s : Vec F S256x128 .f32) :
    k0_pay19 k0_pay5 s (extractAt ![0, 0, 0] (k0_pay18 k0_pay5 s) inpos_S1x1x1_p0_0_0) = mask s := rfl
@[inherit_doc mask7] theorem mask21 (s : Vec F S256x128 .f32) : k0_pay21 k0_pay5 s = mask s := rfl
@[inherit_doc mask7] theorem mask24 (s : Vec F S256x128 .f32) : k0_pay24 s (k0_pay23 k0_pay5 s) = mask s := rfl
@[inherit_doc mask7] theorem mask26 (s : Vec F S256x128 .f32) : k0_pay26 k0_pay5 s = mask s := rfl

/-- Every round's word is `pick` of its row. -/
theorem pick6 (s : Vec F S256x128 .f32) : extractAt ![0, 0, 0] (k0_pay6 s) inpos_S1x1x1_p0_0_0 = pick s := rfl
@[inherit_doc pick6] theorem pick9 (s : Vec F S256x128 .f32) : extractAt ![0, 0, 0] (k0_pay9 (k0_pay8 s)) inpos_S1x1x1_p0_0_0 = pick s := rfl
@[inherit_doc pick6] theorem pick11 (s : Vec F S256x128 .f32) : extractAt ![0, 0, 0] (k0_pay11 k0_pay5 s) inpos_S1x1x1_p0_0_0 = pick s := rfl
@[inherit_doc pick6] theorem pick14 (s : Vec F S256x128 .f32) :
    extractAt ![0, 0, 0] (k0_pay14 (k0_pay13 k0_pay5 s)) inpos_S1x1x1_p0_0_0 = pick s := rfl
@[inherit_doc pick6] theorem pick16 (s : Vec F S256x128 .f32) : extractAt ![0, 0, 0] (k0_pay16 k0_pay5 s) inpos_S1x1x1_p0_0_0 = pick s := rfl
@[inherit_doc pick6] theorem pick18 (s : Vec F S256x128 .f32) : extractAt ![0, 0, 0] (k0_pay18 k0_pay5 s) inpos_S1x1x1_p0_0_0 = pick s := rfl
@[inherit_doc pick6] theorem pick20 (s : Vec F S256x128 .f32) : extractAt ![0, 0, 0] (k0_pay20 k0_pay5 s) inpos_S1x1x1_p0_0_0 = pick s := rfl
@[inherit_doc pick6] theorem pick22 (s : Vec F S256x128 .f32) : extractAt ![0, 0, 0] (k0_pay22 k0_pay5 s) inpos_S1x1x1_p0_0_0 = pick s := rfl
@[inherit_doc pick6] theorem pick25 (s : Vec F S256x128 .f32) : extractAt ![0, 0, 0] (k0_pay25 k0_pay5 s) inpos_S1x1x1_p0_0_0 = pick s := rfl
@[inherit_doc pick6] theorem pick27 (s : Vec F S256x128 .f32) : extractAt ![0, 0, 0] (k0_pay27 k0_pay5 s) inpos_S1x1x1_p0_0_0 = pick s := rfl

set_option maxHeartbeats 1000000 in
/-- The body at any point, on whole memrefs: the input block `x0` stays, the words found are `T`. -/
theorem run_body (c : Dev nD) (i : grid0.Coords) (arg2 : Memref sig .tc .vmem S1x256x128 .f32) (harg2 : arg2.IsWhole) (arg3 : Memref sig .tc .vmem S1x40x8x128 .f32) (harg3 : arg3.IsWhole) (arg4 : Memref sig .tc .smem S10 .i32) (harg4 : arg4.IsWhole) (arg5 : Memref sig .tc .vmem S256x128 .f32) (harg5 : arg5.IsWhole)
    (x0 : Vec F S1x256x128 .f32) (T : Vec F S10 .i32) :
      ∀ (E : Set ℕ) (K : PUnit → sProp 𝕄),
        iprop(owns (c : Thread nD τ) arg2 fullShare x0 ∗ (∃ d, owns (c : Thread nD τ) arg3 fullShare d) ∗ owns (c : Thread nD τ) arg4 fullShare T ∗ (∃ d, owns (c : Thread nD τ) arg5 fullShare d)
            ∗ (iprop(owns (c : Thread nD τ) arg2 fullShare x0 ∗ owns (c : Thread nD τ) arg3 fullShare (outBlock i (wordsAfter i x0 T)) ∗ owns (c : Thread nD τ) arg4 fullShare (wordsAfter i x0 T) ∗ (∃ d, owns (c : Thread nD τ) arg5 fullShare d)) -∗ K ⟨⟩))
          ⊢ wp frame (wpE (defs₀ (F := F)) Variants.none c none) E (cc0__body i arg2 harg2 arg3 harg3 arg4 harg4 arg5 harg5) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%d1, %f1, -, H1⟩, ⟨%fs0, %hfs0, HS0⟩, ⟨%ds1, %fs1, -, HS1⟩, Hk⟩
    obtain rfl := harg2.eq_unread hf0
    obtain rfl := harg4.eq_unread hfs0
    have h1 : ∀ v, k0_chk1 i v := chk i
    have h2 : ∀ v, k0_chk2 i v := chk i
    have h3 : ∀ v, k0_chk3 i v := chk i
    have h4 : ∀ v, k0_chk4 i v := chk i
    have h5 : ∀ v, k0_chk5 i v := chk i
    have h6 : ∀ v, k0_chk6 i v := chk i
    have h7 : ∀ v, k0_chk7 i v := chk i
    have h8 : ∀ v, k0_chk8 i v := chk i
    have h9 : ∀ v, k0_chk9 i v := chk i
    have h10 : ∀ v, k0_chk10 i v := chk i
    sl_exec (disch := with_reducible first | apply h1 | apply h2 | apply h3 | apply h4 | apply h5 | apply h6 | apply h7 | apply h8 | apply h9 | apply h10)
    sl_step
    have e0 : run_body.sl.v88 c arg2 harg2 arg5 x0 = stage x0 0 := by
      refine (View.readCov_full _ _ _ _ _).trans (congrArg k0_pay4 ?_)
      exact (View.readAt_full _ _ _).trans (harg2.read_unread x0)
    have e1 : run_body.sl.v108 c arg2 harg2 arg5 x0 = stage x0 1 :=
      next (View.readCov_full _ _ _ _ _) (mask7 _) e0
    have e2 : run_body.sl.v128 c arg2 harg2 arg5 x0 = stage x0 2 :=
      next (View.readCov_full _ _ _ _ _) (mask10 _) e1
    have e3 : run_body.sl.v148 c arg2 harg2 arg5 x0 = stage x0 3 :=
      next (View.readCov_full _ _ _ _ _) (mask12 _) e2
    have e4 : run_body.sl.v168 c arg2 harg2 arg5 x0 = stage x0 4 :=
      next (View.readCov_full _ _ _ _ _) (mask15 _) e3
    have e5 : run_body.sl.v188 c arg2 harg2 arg5 x0 = stage x0 5 :=
      next (View.readCov_full _ _ _ _ _) (mask17 _) e4
    have e6 : run_body.sl.v208 c arg2 harg2 arg5 x0 = stage x0 6 :=
      next (View.readCov_full _ _ _ _ _) (mask19 _) e5
    have e7 : run_body.sl.v228 c arg2 harg2 arg5 x0 = stage x0 7 :=
      next (View.readCov_full _ _ _ _ _) (mask21 _) e6
    have e8 : run_body.sl.v248 c arg2 harg2 arg5 x0 = stage x0 8 :=
      next (View.readCov_full _ _ _ _ _) (mask24 _) e7
    have e9 : run_body.sl.v268 c arg2 harg2 arg5 x0 = stage x0 9 :=
      next (View.readCov_full _ _ _ _ _) (mask26 _) e8
    have p0 : run_body.sl.v100 c arg2 harg2 arg5 x0 = pick (stage x0 0) := (pick6 _).trans (congrArg pick e0)
    have p1 : run_body.sl.v120 c arg2 harg2 arg5 x0 = pick (stage x0 1) := (pick9 _).trans (congrArg pick e1)
    have p2 : run_body.sl.v140 c arg2 harg2 arg5 x0 = pick (stage x0 2) := (pick11 _).trans (congrArg pick e2)
    have p3 : run_body.sl.v160 c arg2 harg2 arg5 x0 = pick (stage x0 3) := (pick14 _).trans (congrArg pick e3)
    have p4 : run_body.sl.v180 c arg2 harg2 arg5 x0 = pick (stage x0 4) := (pick16 _).trans (congrArg pick e4)
    have p5 : run_body.sl.v200 c arg2 harg2 arg5 x0 = pick (stage x0 5) := (pick18 _).trans (congrArg pick e5)
    have p6 : run_body.sl.v220 c arg2 harg2 arg5 x0 = pick (stage x0 6) := (pick20 _).trans (congrArg pick e6)
    have p7 : run_body.sl.v240 c arg2 harg2 arg5 x0 = pick (stage x0 7) := (pick22 _).trans (congrArg pick e7)
    have p8 : run_body.sl.v260 c arg2 harg2 arg5 x0 = pick (stage x0 8) := (pick25 _).trans (congrArg pick e8)
    have p9 : run_body.sl.v280 c arg2 harg2 arg5 x0 = pick (stage x0 9) := (pick27 _).trans (congrArg pick e9)
    have hS : topWords x0 = wordsOf F ![run_body.sl.v100 c arg2 harg2 arg5 x0, run_body.sl.v120 c arg2 harg2 arg5 x0, run_body.sl.v140 c arg2 harg2 arg5 x0, run_body.sl.v160 c arg2 harg2 arg5 x0, run_body.sl.v180 c arg2 harg2 arg5 x0, run_body.sl.v200 c arg2 harg2 arg5 x0, run_body.sl.v220 c arg2 harg2 arg5 x0, run_body.sl.v240 c arg2 harg2 arg5 x0, run_body.sl.v260 c arg2 harg2 arg5 x0, run_body.sl.v280 c arg2 harg2 arg5 x0] := by
      rw [p0, p1, p2, p3, p4, p5, p6, p7, p8, p9]
      exact congrArg (wordsOf F) (vec10 fun k => pick (stage x0 k.val))
    have w0 : run_body.sl.v316 c arg2 harg2 arg5 x0 = topWords x0 (ix1 0) := word_eq hS 0 [1, 2, 3, 4, 5, 6, 7, 8, 9] (by decide) (by sl_kernel_rfl)
    have w1 : run_body.sl.v346 c arg2 harg2 arg5 x0 = topWords x0 (ix1 1) := word_eq hS 1 [0, 2, 3, 4, 5, 6, 7, 8, 9] (by decide) (by sl_kernel_rfl)
    have w2 : run_body.sl.v376 c arg2 harg2 arg5 x0 = topWords x0 (ix1 2) := word_eq hS 2 [0, 1, 3, 4, 5, 6, 7, 8, 9] (by decide) (by sl_kernel_rfl)
    have w3 : run_body.sl.v406 c arg2 harg2 arg5 x0 = topWords x0 (ix1 3) := word_eq hS 3 [0, 1, 2, 4, 5, 6, 7, 8, 9] (by decide) (by sl_kernel_rfl)
    have w4 : run_body.sl.v436 c arg2 harg2 arg5 x0 = topWords x0 (ix1 4) := word_eq hS 4 [0, 1, 2, 3, 5, 6, 7, 8, 9] (by decide) (by sl_kernel_rfl)
    have w5 : run_body.sl.v466 c arg2 harg2 arg5 x0 = topWords x0 (ix1 5) := word_eq hS 5 [0, 1, 2, 3, 4, 6, 7, 8, 9] (by decide) (by sl_kernel_rfl)
    have w6 : run_body.sl.v496 c arg2 harg2 arg5 x0 = topWords x0 (ix1 6) := word_eq hS 6 [0, 1, 2, 3, 4, 5, 7, 8, 9] (by decide) (by sl_kernel_rfl)
    have w7 : run_body.sl.v526 c arg2 harg2 arg5 x0 = topWords x0 (ix1 7) := word_eq hS 7 [0, 1, 2, 3, 4, 5, 6, 8, 9] (by decide) (by sl_kernel_rfl)
    have w8 : run_body.sl.v556 c arg2 harg2 arg5 x0 = topWords x0 (ix1 8) := word_eq hS 8 [0, 1, 2, 3, 4, 5, 6, 7, 9] (by decide) (by sl_kernel_rfl)
    have w9 : run_body.sl.v586 c arg2 harg2 arg5 x0 = topWords x0 (ix1 9) := word_eq hS 9 [0, 1, 2, 3, 4, 5, 6, 7, 8] (by decide) (by sl_kernel_rfl)
    have hw : ∀ k, (![run_body.sl.v316 c arg2 harg2 arg5 x0, run_body.sl.v346 c arg2 harg2 arg5 x0, run_body.sl.v376 c arg2 harg2 arg5 x0, run_body.sl.v406 c arg2 harg2 arg5 x0, run_body.sl.v436 c arg2 harg2 arg5 x0, run_body.sl.v466 c arg2 harg2 arg5 x0, run_body.sl.v496 c arg2 harg2 arg5 x0, run_body.sl.v526 c arg2 harg2 arg5 x0, run_body.sl.v556 c arg2 harg2 arg5 x0, run_body.sl.v586 c arg2 harg2 arg5 x0] : Fin 10 → BitVec 32) k = topWords x0 (ix1 k) := by
      rw [w0, w1, w2, w3, w4, w5, w6, w7, w8, w9]
      exact fun k => (congrFun (vec10 fun k => topWords x0 (ix1 k)) k).symm
    have hB : arg4.view.read (Elt F) (if hc : run_body.sl.v2 i = 1#1 then
        arg4.view.writes (Elt F) (harg4.unread T)
          [⟨Rect.unit ![9] S1.size inb_S10_S1_9, fun _ => run_body.sl.v586 c arg2 harg2 arg5 x0⟩,
           ⟨Rect.unit ![8] S1.size inb_S10_S1_8, fun _ => run_body.sl.v556 c arg2 harg2 arg5 x0⟩,
           ⟨Rect.unit ![7] S1.size inb_S10_S1_7, fun _ => run_body.sl.v526 c arg2 harg2 arg5 x0⟩,
           ⟨Rect.unit ![6] S1.size inb_S10_S1_6, fun _ => run_body.sl.v496 c arg2 harg2 arg5 x0⟩,
           ⟨Rect.unit ![5] S1.size inb_S10_S1_5, fun _ => run_body.sl.v466 c arg2 harg2 arg5 x0⟩,
           ⟨Rect.unit ![4] S1.size inb_S10_S1_4, fun _ => run_body.sl.v436 c arg2 harg2 arg5 x0⟩,
           ⟨Rect.unit ![3] S1.size inb_S10_S1_3, fun _ => run_body.sl.v406 c arg2 harg2 arg5 x0⟩,
           ⟨Rect.unit ![2] S1.size inb_S10_S1_2, fun _ => run_body.sl.v376 c arg2 harg2 arg5 x0⟩,
           ⟨Rect.unit ![1] S1.size inb_S10_S1_1, fun _ => run_body.sl.v346 c arg2 harg2 arg5 x0⟩,
           ⟨Rect.unit ![0] S1.size inb_S10_S1_0, fun _ => run_body.sl.v316 c arg2 harg2 arg5 x0⟩]
        else harg4.unread T) = wordsAfter i x0 T :=
      words_read arg4.view i x0 _ T (harg4.read_unread T) _ hw _ _ _ _ _ _ _ _ _ _
    iapply Hk
    isplitl [H0]
    · iexists _; isplitr; · ipureintro; exact harg2.read_unread _
      iexact H0
    isplitl [H1]
    · iexists _; isplitr; swap; · iexact H1
      ipureintro
      have hr0 : arg3.view.read (Elt F) (arg3.view.writes (Elt F) arg3.view.junk (run_body.sl.H1_1 : List (View.Piece (Elt F) S1x40x8x128 .f32))) = k0_pay41 :=
        View.read_writes_full _ _ _ _ _
      have hr1 : arg3.view.read (Elt F) (arg3.view.writes (Elt F) f1 (run_body.sl.H1_1 : List (View.Piece (Elt F) S1x40x8x128 .f32))) = k0_pay41 :=
        View.read_writes_full _ _ _ _ _
      rw [outBlock_eq]
      refine step_read_same _ i _ _ (word_read _ _ _ hB 9 rfl _ _) _ _ ?_ _
      refine step_read_same _ i _ _ (word_read _ _ _ hB 8 rfl _ _) _ _ ?_ _
      refine step_read_same _ i _ _ (word_read _ _ _ hB 7 rfl _ _) _ _ ?_ _
      refine step_read_same _ i _ _ (word_read _ _ _ hB 6 rfl _ _) _ _ ?_ _
      refine step_read_same _ i _ _ (word_read _ _ _ hB 5 rfl _ _) _ _ ?_ _
      refine step_read_same _ i _ _ (word_read _ _ _ hB 4 rfl _ _) _ _ ?_ _
      refine step_read_same _ i _ _ (word_read _ _ _ hB 3 rfl _ _) _ _ ?_ _
      refine step_read_same _ i _ _ (word_read _ _ _ hB 2 rfl _ _) _ _ ?_ _
      refine step_read_same _ i _ _ (word_read _ _ _ hB 1 rfl _ _) _ _ ?_ _
      exact step_read_first _ i _ _ (word_read _ _ _ hB 0 rfl _ _) _ _ _ _ hr0 hr1 _
    isplitl [HS0]
    · iexists _; isplitr; swap; · iexact HS0
      ipureintro
      exact hB
    iexists _, _; isplitr; swap; · iexact HS1
    ipureintro; rfl

end Cert.KernelIdeal.Body

end
-- ==== Proof.Launch.lean ====
module

public import proofs.«01_k».proof.Proof.Body
public import proofs.«01_k».proof.Proof.Gen.KernelIdeal.Frame
public import Idealize.ShloMosaic.Lib.Pipeline.Value
public import Idealize.ShloMosaic.Lib.Claim
public import Idealize.ShloMosaic.Lib.ValueIdxCore

/-!
The launch: at every point the words' scratch holds the ten words of the point's row, so the point's output block is
`outBlock` at them; the run of the whole program, and its frame.
-/

@[expose] public section

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row `b` of the folded input, as the block the body reads. -/
def rowBlock (X : Vec F S128x256x128 .f32) (b : Fin 128) : Vec F S1x256x128 .f32 := fun y => X (ValueIdx.ix3 b (y 1) (y 2))

theorem coord0 (t : Fin cfg0.N) : (grid0.coords t 0).val = t.val / 8 % 128 := Pipeline.Grid.coords_val t 0 (by decide) rfl
theorem coord1 (t : Fin cfg0.N) : (grid0.coords t 1).val = t.val / 1 % 8 := Pipeline.Grid.coords_val t 1 (by decide) rfl

/-- The row a point is of. -/
def rowOf (t : Fin cfg0.N) : Fin 128 := ⟨t.val / 8, by have := lt_of_lt_of_eq t.isLt (show cfg0.N = 1024 from N_0); omega⟩

/-- The input block at a point is its row. -/
theorem iblk_eq (c : Dev nD) (t : Fin cfg0.N) : (iblk m c 0 t : Vec F S1x256x128 .f32) = rowBlock (V m c main_v0) (rowOf t) := by
  have hN := lt_of_lt_of_eq t.isLt (show cfg0.N = 1024 from N_0)
  have e0 := coord0 t
  funext y
  refine congrArg (V m c main_v0) (funext fun a => Fin.ext ?_)
  refine (Pipeline.Window.rect_emb_val (cfg0.win 0) t y a).trans ?_
  have h0 : (y 0).val < 1 := (y 0).isLt
  match a with
  | ⟨0, _⟩ =>
    show (BitVec.ofNat 32 (grid0.coords t 0).val).toNat * 1 + (y 0).val = t.val / 8
    rw [e0, BitVec.toNat_ofNat]; omega
  | ⟨1, _⟩ => show 0 * 256 + (y 1).val = (y 1).val; omega
  | ⟨2, _⟩ => show 0 * 128 + (y 2).val = (y 2).val; omega

/-- The ten words of a row of the input. -/
def rowWords (c : Dev nD) (b : Fin 128) : Vec F S10 .i32 := topWords (rowBlock (V m c main_v0) b)

/-- A point is the first of its row exactly when it is a multiple of eight. -/
theorem condFirst_iff (t : Fin cfg0.N) : condFirst (grid0.coords t) ↔ t.val % 8 = 0 := by
  have e1 := coord1 t
  simp only [condFirst, e1]
  word_cmp

/-- The words' scratch, and the other. -/
abbrev scT : Memref sig .tc .smem S10 .i32 := Memref.whole cc0_scratch0
@[inherit_doc scT] abbrev scS : Memref sig .tc .vmem S256x128 .f32 := Memref.whole cc0_scratch1

/-- Between points: the words found are those of the row, but before its first point. -/
def ΦW (c : Dev nD) (n : ℕ) : sProp 𝕄 :=
  iprop(((∃ d, owns (c : Thread nD τ) scS fullShare d)
      ∗ (∃ d, ⌜∀ b : Fin 128, n % 8 ≠ 0 → n / 8 = b.val → d = rowWords m c b⌝ ∗ owns (c : Thread nD τ) scT fullShare d)) ∗ (∃ r, prngReg c r))

theorem PhiA_eq (c : Dev nD) : (Pipeline.ΦA spec0 c : sProp 𝕄)
    = iprop(((∃ d, owns (c : Thread nD τ) scS fullShare d) ∗ (∃ d, owns (c : Thread nD τ) scT fullShare d)) ∗ (∃ r, prngReg c r)) := by
  unfold Pipeline.ΦA; rw [scopedRest0_eq]; simp only [scS, scT, owns_whole]; try rfl

/-- The proof data: at every point the output block is that of its row's words. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (grid0.coords t) (rowWords m c (rowOf t))
  Φ t := ΦW m c t.val
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) :
    (dats m 0 c).after 1 t = outBlock (grid0.coords t) (rowWords m c (rowOf t)) := by dsimp only [dats]

theorem before_in (c : Dev nD) (t : Fin cfg0.N) (d) : (dats m 0 c).before 0 t d = iblk m c 0 t :=
  before0_0_of m (dats m 0 c) (A_eq m c 0) (after_in m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The words after a point are its row's. -/
theorem wordsAfter_eq (c : Dev nD) (t : Fin cfg0.N) (T : Vec F S10 .i32)
    (hT : ∀ b : Fin 128, t.val % 8 ≠ 0 → t.val / 8 = b.val → T = rowWords m c b) :
    wordsAfter (grid0.coords t) (iblk m c 0 t) T = rowWords m c (rowOf t) := by
  unfold wordsAfter
  by_cases h : t.val % 8 = 0
  · rw [if_pos ((condFirst_iff t).mpr h)]
    exact congrArg topWords (iblk_eq m c t)
  · rw [if_neg fun h' => h ((condFirst_iff t).mp h')]
    exact hT (rowOf t) h rfl

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl, after_in, after_out]
  rw [show (dats m 0 c).Φ t.castSucc = ΦW m c t.val from rfl, show (dats m 0 c).Φ t.succ = ΦW m c (t.val + 1) from rfl]
  unfold ΦW
  iintro ⟨⟨⟨HS1, ⟨%T, %hT, HS0⟩⟩, Hg⟩, Ho, ⟨%d0, H0⟩, ⟨%d1, H1⟩⟩
  have hW := wordsAfter_eq m c t T hT
  iapply ((run_body c (grid0.coords t) _ _ _ _ _ _ _ _ (iblk m c 0 t) T) Set.univ _)
  isplitl [H0]; · iexact H0
  isplitl [H1]; · iexists _; iexact H1
  isplitl [HS0]; · iexact HS0
  isplitl [HS1]; · iexact HS1
  rw [hW]
  iintro ⟨H0, H1, HS0, HS1⟩
  isplitl [HS1 HS0 Hg]
  · isplitl [HS1 HS0]
    · isplitl [HS1]
      · iexact HS1
      iexists _
      isplitr; swap; · iexact HS0
      ipureintro
      intro b h1 h2
      exact congrArg (rowWords m c) (Fin.ext (show t.val / 8 = b.val by omega))
    iexact Hg
  isplitl [Ho]; · iexact Ho
  isplitl [H0]; · iexact H0
  iexact H1

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ ΦW m c 0 := by
  rw [PhiA_eq]; unfold ΦW
  iintro ⟨⟨HS1, ⟨%d, HS0⟩⟩, Hg⟩
  isplitl [HS1 HS0]
  · isplitl [HS1]; · iexact HS1
    iexists _; isplitr; swap; · iexact HS0
    ipureintro; intro b h; exact absurd rfl h
  iexact Hg

theorem Phi_out (c : Dev nD) (n : ℕ) : ΦW m c n ⊢ (Pipeline.ΦA spec0 c : sProp 𝕄) := by
  rw [PhiA_eq]; unfold ΦW
  iintro ⟨⟨HS1, ⟨%d, -, HS0⟩⟩, Hg⟩
  isplitl [HS1 HS0]
  · isplitl [HS1]; · iexact HS1
    iexists _; iexact HS0
  iexact Hg

set_option backward.isDefEq.respectTransparency.types false in
set_option maxHeartbeats 800000 in
/-- The run: every final state holds the arrays as the points left them, the host's lines done, every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Phi_in m c) (hout := fun c => Phi_out m c _)
    (hQ' := fun _ h => h)

/-- The frame: the argument ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Body

end
-- ==== Proof.KFrame.lean ====
module

public import proofs.«01_k».proof.Proof.Launch
public import proofs.«01_k».proof.Proof.Gen.Kernel.Frame
public import proofs.«01_k».proof.Defs

/-!
The kernel's program and its idealization are one text (no rule rewrites an operation), so the frame of the one is the other's.
-/

@[expose] public section

set_option maxRecDepth 16384

noncomputable section

namespace Cert.Kernel.Body
open Cert.Kernel Cert.Kernel.Gen
open Idealize.ShloMosaic Idealize.ShloMosaic.TcCoe Idealize.ShloMosaic.Tactic
open Idealize.SL Idealize.SL.Sem

/-- The frame, of the kernel's program: the argument ends as launched and every counter at zero. -/
def Frame : Prop := ∀ (m : (ℓ : Loc nD τ sig) → Buf (Elt Bits) ℓ) (ρ : Dev nD → PrngReg),
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0)

end Cert.Kernel.Body

namespace Cert.KernelIdeal.Body
open Cert.KernelIdeal Cert.KernelIdeal.Gen
open Idealize.ShloMosaic Idealize.ShloMosaic.TcCoe Idealize.ShloMosaic.Tactic
open Idealize.SL Idealize.SL.Sem

/-- The same of the idealization's program, at the same values. -/
def Frame : Prop := ∀ (m : (ℓ : Loc nD τ sig) → Buf (Elt Bits) ℓ) (ρ : Dev nD → PrngReg),
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0)

/-- The two programs being one text, so are the two frames. -/
theorem frame_eq : Cert.Kernel.Body.Frame = Cert.KernelIdeal.Body.Frame := by
  sl_kernel_rfl

/-- The kernel's frame. -/
theorem kernel_frame : Cert.Kernel.Body.Frame := frame_eq.mpr fun m ρ => frame m ρ

end Cert.KernelIdeal.Body

end
-- ==== Proof.RFrame.lean ====
/-
  The frame of the reference: a host program without a semaphore, whose argument is unchanged.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Value

open Idealize.ShloMosaic Idealize.SL.Sem

/-- Every run of the reference ends with the argument as it was and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩
      (fun r => (∀ c : Dev nD, r.2.mem ((c.tc : Thread nD τ).loc main_arg0) = m ((c.tc : Thread nD τ).loc main_arg0)) ∧ r.2.sem = fun _ => 0) :=
  (θ_run (defs (F := Ideal)) _ _).mono (fun r h => ⟨fun c => (h c).2, sem_eq_zero_of_no_sems (by decide) r.2⟩)
    (run (F := Ideal) m g)

end Cert.ReferenceIdeal.Value

end
-- ==== Proof.Rounds.lean ====
module

public import Idealize.ShloMosaic.Lib.SortPrefix
public import Mathlib.Data.EReal.Basic

/-!
The mathematics of a top-k by rounds. A round takes the least of the positions at which the row is greatest and writes
`−∞` over it. The first `k` rounds take, in order, the first `k` positions of the row's stable sort, greatest first, when
these hold more than `−∞`. And the rank of a position among the `k` taken is its place when they are sorted.
-/

@[expose] public section

noncomputable section

namespace Cert.Rounds

open Idealize.ShloMosaic

variable {n k : ℕ}

/-- `i` is the least of the positions at which `s` is greatest. -/
def IsTop (s : Fin n → EReal) (i : Fin n) : Prop := (∀ j, s j ≤ s i) ∧ ∀ j, j < i → s j < s i

/-- `k` rounds on the row `x`: round `j` finds the row `s j`, takes `σ j` and leaves `−∞` there. -/
structure Picks (x : Fin n → EReal) (s : ℕ → Fin n → EReal) (σ : Fin k → Fin n) : Prop where
  zero : s 0 = x
  succ : ∀ j : Fin k, s (j.val + 1) = Function.update (s j.val) (σ j) ⊥
  top : ∀ j : Fin k, IsTop (s j.val) (σ j)

/-- A position is before another when its entry is greater, or when they are equal and it is the lesser position. -/
def before (x : Fin n → EReal) (a b : Fin n) : Bool := decide (x b < x a) || (decide (x a = x b) && decide (a < b))

theorem before_strict (x : Fin n → EReal) : StrictTotalBefore (before x) :=
  StrictTotalBefore.of_key_then_position (fun a b => decide (b < a)) x (fun a => by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)

/-- A stable sort of an increasing list by the entries alone is the sort by entries, then positions. -/
theorem stableSort_eq (x : Fin n → EReal) (l : List (Fin n)) (hl : l.Pairwise (· < ·)) :
    stableSort (fun a b => decide (x b < x a)) l = stableSort (before x) l := by
  induction l with
  | nil => rfl
  | cons a l ih =>
    rw [List.pairwise_cons] at hl
    unfold stableSort
    rw [ih hl.2]
    refine insertBefore_congr _ _ a _ fun b hb => ?_
    have hab := hl.1 b ((perm_stableSort _ _).mem_iff.mp hb)
    simp [before, not_lt.mpr hab.le]

/-- The same of the positions that a sort's places come from. -/
theorem sortedFrom_eq (x : Fin n → EReal) : sortedFrom (fun a b => decide (x b < x a)) = sortedFrom (before x) := by
  funext i
  unfold sortedFrom
  have h : sortPositions n (fun a b => decide (x b < x a)) = sortPositions n (before x) :=
    stableSort_eq x _ (List.sortedLT_finRange n).pairwise
  rw [List.get_of_eq h]
  rfl

section Picks

variable {x : Fin n → EReal} {s : ℕ → Fin n → EReal} {σ : Fin k → Fin n} (P : Picks x s σ)
include P

/-- A row after some rounds holds `−∞` at the positions taken, -/
theorem Picks.at_taken : ∀ j, j ≤ k → ∀ i : Fin k, i.val < j → s j (σ i) = ⊥
  | 0, _, _, h => absurd h (Nat.not_lt_zero _)
  | j + 1, hj, i, h => by
    rw [P.succ ⟨j, hj⟩]
    by_cases e : σ i = σ ⟨j, hj⟩
    · rw [e, Function.update_self]
    · rw [Function.update_of_ne e]
      refine Picks.at_taken j (Nat.le_of_succ_le hj) i (lt_of_le_of_ne (Nat.le_of_lt_succ h) fun h' => e ?_)
      exact congrArg σ (Fin.ext h')

/-- and elsewhere what it held at first. -/
theorem Picks.at_other : ∀ j, j ≤ k → ∀ p, (∀ i : Fin k, i.val < j → σ i ≠ p) → s j p = x p
  | 0, _, _, _ => congrFun P.zero _
  | j + 1, hj, p, h => by
    rw [P.succ ⟨j, hj⟩, Function.update_of_ne (h ⟨j, hj⟩ (Nat.lt_succ_self j)).symm]
    exact Picks.at_other j (Nat.le_of_succ_le hj) p fun i hi => h i (Nat.lt_succ_of_lt hi)

variable (hk : k ≤ n) (hpos : ∀ i : Fin k, ⊥ < x (sortedFrom (before x) (i.castLE hk)))
include hpos

/-- Each round finds an entry above `−∞`. -/
theorem Picks.above (j : Fin k) : ⊥ < s j.val (σ j) := by
  classical
  let T : Finset (Fin n) := Finset.univ.image fun i : Fin k => sortedFrom (before x) (i.castLE hk)
  let S : Finset (Fin n) := (Finset.univ.filter fun i : Fin k => i.val < j.val).image σ
  have hT : T.card = k := by
    rw [Finset.card_image_of_injective _ fun a b h => ?_, Finset.card_univ, Fintype.card_fin]
    exact Fin.castLE_injective hk (sortedFrom_injective _ h)
  have hS : S.card < T.card := by
    rw [hT]
    refine lt_of_le_of_lt (Finset.card_image_le.trans ?_) j.isLt
    refine (Finset.card_le_card (t := Finset.Iio j) fun i hi => ?_).trans (Fin.card_Iio j).le
    exact Finset.mem_Iio.mpr (Fin.lt_def.mpr (Finset.mem_filter.mp hi).2)
  obtain ⟨p, hp, hnp⟩ := Finset.exists_mem_notMem_of_card_lt_card hS
  obtain ⟨i, -, rfl⟩ := Finset.mem_image.mp hp
  refine (hpos i).trans_le ?_
  rw [← P.at_other j.val j.isLt.le _ fun i' hi' e =>
    hnp (Finset.mem_image.mpr ⟨i', Finset.mem_filter.mpr ⟨Finset.mem_univ _, hi'⟩, e⟩)]
  exact (P.top j).1 _

theorem Picks.ne_of_lt (i j : Fin k) (h : i < j) : σ i ≠ σ j := fun e => by
  have := P.above hk hpos j
  rw [← e, P.at_taken j.val j.isLt.le i h] at this
  exact lt_irrefl _ this

/-- The rounds take different positions. -/
theorem Picks.injective : Function.Injective σ := fun i j e => by
  rcases lt_trichotomy i j with h | h | h
  · exact absurd e (P.ne_of_lt hk hpos i j h)
  · exact h
  · exact absurd e.symm (P.ne_of_lt hk hpos j i h)

/-- No position that is left when a round takes its own is before it. -/
theorem Picks.not_before (i : Fin k) (p : Fin n) (hp : ∀ i' : Fin k, i' < i → σ i' ≠ p) : before x p (σ i) = false := by
  have e1 := P.at_other i.val i.isLt.le p hp
  have e2 := P.at_other i.val i.isLt.le (σ i) fun i' hi' => P.ne_of_lt hk hpos i' i hi'
  have h1 := (P.top i).1 p
  have h2 := (P.top i).2 p
  rw [e1, e2] at h1 h2
  unfold before
  rw [decide_eq_false (not_lt.mpr h1), Bool.false_or]
  by_cases e : x p = x (σ i)
  · rw [decide_eq_false (fun h => absurd e (h2 h).ne), Bool.and_false]
  · rw [decide_eq_false e, Bool.false_and]

/-- The rounds take, in order, the first positions of the stable sort. -/
theorem Picks.sorted (i : Fin k) : sortedFrom (before x) (i.castLE hk) = σ i :=
  (before_strict x).sortedFrom_eq_of_prefix hk σ (P.injective hk hpos)
    (fun i j hij => P.not_before hk hpos i (σ j) fun i' hi' => P.ne_of_lt hk hpos i' j (hi'.trans hij))
    (fun i p hp => P.not_before hk hpos i p fun i' _ => hp i') i

end Picks

/-- The place of the `t`-th least of `k` different positions. -/
def place (σ : Fin k → Fin n) (t : Fin k) : Fin k := sortedFrom (fun a b => decide (σ a < σ b)) t

theorem place_lt (σ : Fin k → Fin n) (hσ : Function.Injective σ) (t u : Fin k) (h : t < u) : σ (place σ t) < σ (place σ u) := by
  have h1 := sortedFrom_noInversion (fun a b => decide (σ a < σ b)) (fun a b => decide (σ a < σ b))
    (fun a b h => by simp only [decide_eq_true_eq, decide_eq_false_iff_not] at *; exact h.asymm) (fun _ _ h => h)
    (fun a b c h h' => by simp only [decide_eq_false_iff_not, not_lt] at *; exact h'.trans h) t u h
  simp only [decide_eq_false_iff_not, not_lt] at h1
  exact lt_of_le_of_ne h1 fun e => h.ne (sortedFrom_injective _ (hσ e))

/-- As many of the positions are below the `t`-th least as `t` says. -/
theorem card_below_place (σ : Fin k → Fin n) (hσ : Function.Injective σ) (t : Fin k) :
    (Finset.univ.filter fun m => σ m < σ (place σ t)).card = t.val := by
  classical
  have hinj : Function.Injective (place σ) := sortedFrom_injective _
  have : (Finset.univ.filter fun m => σ m < σ (place σ t)) = (Finset.Iio t).image (place σ) := by
    ext m
    simp only [Finset.mem_filter, Finset.mem_univ, true_and, Finset.mem_image, Finset.mem_Iio]
    constructor
    · intro h
      obtain ⟨u, rfl⟩ := sortedFrom_surjective (fun a b => decide (σ a < σ b)) m
      refine ⟨u, ?_, rfl⟩
      rcases lt_trichotomy u t with h' | h' | h'
      · exact h'
      · subst h'; exact absurd h (lt_irrefl _)
      · exact absurd h (place_lt σ hσ t u h').asymm
    · rintro ⟨u, hu, rfl⟩
      exact place_lt σ hσ u t hu
  rw [this, Finset.card_image_of_injective _ hinj, Fin.card_Iio]

/-- A position of the `k` and its rank, against the sorted ones: the two ways of saying the same element. -/
theorem rank_iff (σ : Fin k → Fin n) (hσ : Function.Injective σ) (p : Fin n) (t : Fin k) :
    (∃ j, σ j = p ∧ (Finset.univ.filter fun m => σ m < σ j).card = t.val) ↔ σ (place σ t) = p := by
  constructor
  · rintro ⟨j, rfl, h⟩
    obtain ⟨u, rfl⟩ := sortedFrom_surjective (fun a b => decide (σ a < σ b)) j
    have := card_below_place σ hσ u
    exact congrArg (fun u => σ (place σ u)) (Fin.ext (h.symm.trans this))
  · rintro rfl
    exact ⟨_, rfl, card_below_place σ hσ t⟩

end Cert.Rounds

end
-- ==== Proof.TopK.lean ====
module

public import proofs.«01_k».proof.Proof.Rounds
public import Idealize.ShloMosaic.PureOps.Ideal
public import Idealize.ShloMosaic.Lib.Pipeline.Value
public import Idealize.ShloMosaic.Lib.ValueIdxCore

/-!
The reference's two sorts, element by element: the top-k of a row gives the entries and the positions of the order `before`,
and the sort of the positions puts them ascending.
-/

@[expose] public section

noncomputable section

namespace Cert.Rounds
open Idealize.ShloMosaic

variable {B n k : Nat}

/-- The row `b` of an array. -/
def rowAt (x : (⟨2, ![B, n]⟩ : Shape).Idx → EReal) (b : Fin B) : Fin n → EReal := fun p => x (ValueIdx.ix2 b p)

/-- The position of the `j`-th entry of a row in the order `before`. -/
def topPos (hk : k ≤ n) (x : Fin n → EReal) (j : Fin k) : Fin n := sortedFrom (before x) (j.castLE hk)

theorem along_ix2 (b : Fin B) (p q : Fin n) :
    (ValueIdx.ix2 b p : (⟨2, ![B, n]⟩ : Shape).Idx).along ⟨1, Nat.one_lt_two⟩ q = (ValueIdx.ix2 b q : (⟨2, ![B, n]⟩ : Shape).Idx) := by
  funext a
  match a with
  | ⟨0, _⟩ => rfl
  | ⟨1, _⟩ => rfl

theorem ofBool_beq (b : Bool) : (BitVec.ofBool b == 1#1) = b := by cases b <;> rfl

/-- The order by which the top-k sorts a row. -/
theorem topOrder (x : (⟨2, ![B, n]⟩ : Shape).Idx → EReal) (b : Fin B) (p : Fin n) :
    sortedFrom (fun q q' => FloatOps.cmpfTotal (F := Ideal) (φ := .f32) .gt
        (x ((ValueIdx.ix2 b p : (⟨2, ![B, n]⟩ : Shape).Idx).along ⟨1, Nat.one_lt_two⟩ q))
        (x ((ValueIdx.ix2 b p : (⟨2, ![B, n]⟩ : Shape).Idx).along ⟨1, Nat.one_lt_two⟩ q')) == 1#1)
      = sortedFrom (before (rowAt x b)) := by
  have e (q q' : Fin n) : (FloatOps.cmpfTotal (F := Ideal) (φ := .f32) .gt
      (x ((ValueIdx.ix2 b p : (⟨2, ![B, n]⟩ : Shape).Idx).along ⟨1, Nat.one_lt_two⟩ q))
      (x ((ValueIdx.ix2 b p : (⟨2, ![B, n]⟩ : Shape).Idx).along ⟨1, Nat.one_lt_two⟩ q')) == 1#1)
      = decide (rowAt x b q' < rowAt x b q) := by
    rw [along_ix2, along_ix2]
    exact ofBool_beq _
  rw [← sortedFrom_eq]
  exact congrArg sortedFrom (funext fun q => funext fun q' => e q q')

/-- The position the top-k gives. -/
theorem topK_pos (hk : k ≤ n) (x : (⟨2, ![B, n]⟩ : Shape).Idx → EReal) (h : (⟨2, ![B, n]⟩ : Shape).Slices (fun _ => 0) ⟨2, ![B, k]⟩)
    (b : Fin B) (j : Fin k) :
    (Host.topK ⟨2, ![B, k]⟩ 1 (FloatOps.cmpfTotal (F := Ideal) (φ := .f32) .gt) x h).2 (ValueIdx.ix2 b j)
      = BitVec.ofNat 32 (topPos hk (rowAt x b) j).val := by
  unfold Host.topK
  dsimp only
  refine (extractStridedSlice_apply _ _ h _ (ValueIdx.ix2 b (j.castLE hk)) ?_).trans ?_
  · intro a
    match a with
    | ⟨0, _⟩ => exact (Nat.zero_add _).symm
    | ⟨1, _⟩ => exact (Nat.zero_add _).symm
  · unfold Host.sort2
    rw [dif_pos (show 1 < (⟨2, ![B, n]⟩ : Shape).rank from Nat.one_lt_two)]
    exact congrArg (fun π : Fin n → Fin n => BitVec.ofNat 32 (π (j.castLE hk)).val) (topOrder x b (j.castLE hk))

/-- The entry the top-k gives. -/
theorem topK_entry (hk : k ≤ n) (x : (⟨2, ![B, n]⟩ : Shape).Idx → EReal) (h : (⟨2, ![B, n]⟩ : Shape).Slices (fun _ => 0) ⟨2, ![B, k]⟩)
    (b : Fin B) (j : Fin k) :
    (Host.topK ⟨2, ![B, k]⟩ 1 (FloatOps.cmpfTotal (F := Ideal) (φ := .f32) .gt) x h).1 (ValueIdx.ix2 b j)
      = rowAt x b (topPos hk (rowAt x b) j) := by
  unfold Host.topK
  dsimp only
  refine (extractStridedSlice_apply _ _ h _ (ValueIdx.ix2 b (j.castLE hk)) ?_).trans ?_
  · intro a
    match a with
    | ⟨0, _⟩ => exact (Nat.zero_add _).symm
    | ⟨1, _⟩ => exact (Nat.zero_add _).symm
  · unfold Host.sort2
    rw [dif_pos (show 1 < (⟨2, ![B, n]⟩ : Shape).rank from Nat.one_lt_two)]
    refine (congrArg (fun π : Fin n → Fin n => x ((ValueIdx.ix2 b (j.castLE hk) : (⟨2, ![B, n]⟩ : Shape).Idx).along ⟨1, Nat.one_lt_two⟩
      (π (j.castLE hk)))) (topOrder x b (j.castLE hk))).trans ?_
    exact congrArg x (along_ix2 b _ _)

/-- Signed comparison of two small positions. -/
theorem slt_pos (p q : Nat) (hp : p < 2 ^ 31) (hq : q < 2 ^ 31) :
    (IntOp.cmpi .slt (BitVec.ofNat 32 p) (BitVec.ofNat 32 q) == 1#1) = decide (p < q) := by
  have h : ∀ r, r < 2 ^ 31 → (BitVec.ofNat 32 r).toInt = r := fun r hr => by
    rw [BitVec.toInt_eq_toNat_cond, BitVec.toNat_ofNat, Nat.mod_eq_of_lt (by omega)]
    exact if_pos (by omega)
  refine (ofBool_beq _).trans ?_
  show decide ((BitVec.ofNat 32 p).toInt < (BitVec.ofNat 32 q).toInt) = _
  rw [h p hp, h q hq]
  exact decide_eq_decide.mpr Nat.cast_lt

/-- The sort of ten positions, given as words. -/
theorem sort_pos (hn : n ≤ 2 ^ 31) (σ : Fin B → Fin k → Fin n) (w : (⟨2, ![B, k]⟩ : Shape).Idx → BitVec 32)
    (hw : ∀ b j, w (ValueIdx.ix2 b j) = BitVec.ofNat 32 (σ b j).val) (b : Fin B) (t : Fin k) :
    Host.sort ⟨2, ![B, k]⟩ 1 (IntOp.cmpi .slt) w (ValueIdx.ix2 b t) = BitVec.ofNat 32 (σ b (place (σ b) t)).val := by
  unfold Host.sort
  rw [dif_pos (show 1 < (⟨2, ![B, k]⟩ : Shape).rank from Nat.one_lt_two)]
  have e : sortedFrom (fun j j' => IntOp.cmpi .slt
        (w ((ValueIdx.ix2 b t : (⟨2, ![B, k]⟩ : Shape).Idx).along ⟨1, Nat.one_lt_two⟩ j))
        (w ((ValueIdx.ix2 b t : (⟨2, ![B, k]⟩ : Shape).Idx).along ⟨1, Nat.one_lt_two⟩ j')) == 1#1)
      = sortedFrom (fun j j' => decide (σ b j < σ b j')) := by
    have e (j j' : Fin k) : (IntOp.cmpi .slt
        (w ((ValueIdx.ix2 b t : (⟨2, ![B, k]⟩ : Shape).Idx).along ⟨1, Nat.one_lt_two⟩ j))
        (w ((ValueIdx.ix2 b t : (⟨2, ![B, k]⟩ : Shape).Idx).along ⟨1, Nat.one_lt_two⟩ j')) == 1#1) = decide (σ b j < σ b j') := by
      rw [along_ix2, along_ix2, hw, hw]
      exact slt_pos _ _ (lt_of_lt_of_le (σ b j).isLt hn) (lt_of_lt_of_le (σ b j').isLt hn)
    exact congrArg sortedFrom (funext fun j => funext fun j' => e j j')
  refine (congrArg (fun π : Fin k → Fin k => w ((ValueIdx.ix2 b t : (⟨2, ![B, k]⟩ : Shape).Idx).along ⟨1, Nat.one_lt_two⟩ (π t))) e).trans ?_
  exact (congrArg w (along_ix2 b t _)).trans (hw b _)

end Cert.Rounds

end
-- ==== Proof.Pick.lean ====
module

public import proofs.«01_k».proof.Proof.Spec
public import proofs.«01_k».proof.Proof.Rounds
public import Idealize.ShloMosaic.PureOps.Ideal.Laws
public import Idealize.ShloMosaic.Lib.Pipeline.Value
public import Idealize.ShloMosaic.Lib.ValueIdxCore

/-!
One round of the body, over the extended reals: `pick` is the least flat position at which the row is greatest, and `mask`
the row with `−∞` there.
-/

@[expose] public section

set_option maxRecDepth 16384

noncomputable section

namespace Cert.KernelIdeal.Body

open Idealize.ShloMosaic Idealize.ShloMosaic.TcCoe Idealize.ShloMosaic.Tactic
open Cert.KernelIdeal Cert.KernelIdeal.Gen Cert.Words Cert.Rounds

/-- The index of a flat position, and the flat position of an index. -/
def idxOf (p : Fin 32768) : S256x128.Idx := ValueIdx.ix2 ⟨p.val / 128, by omega⟩ ⟨p.val % 128, by omega⟩
@[inherit_doc idxOf] def posOf (y : S256x128.Idx) : Fin 32768 :=
  ⟨(y 0).val * 128 + (y 1).val, by have h0 : (y 0).val < 256 := (y 0).isLt; have h1 : (y 1).val < 128 := (y 1).isLt; omega⟩

theorem idxOf_posOf (y : S256x128.Idx) : idxOf (posOf y) = y := by
  have h1 : (y 1).val < 128 := (y 1).isLt
  funext a
  match a with
  | ⟨0, _⟩ => exact Fin.ext (show ((y 0).val * 128 + (y 1).val) / 128 = (y 0).val by omega)
  | ⟨1, _⟩ => exact Fin.ext (show ((y 0).val * 128 + (y 1).val) % 128 = (y 1).val by omega)

theorem posOf_idxOf (p : Fin 32768) : posOf (idxOf p) = p :=
  Fin.ext (show p.val / 128 * 128 + p.val % 128 = p.val by omega)

/-- A row by its flat positions. -/
def flat (s : Vec Ideal S256x128 .f32) (p : Fin 32768) : EReal := s (idxOf p)

theorem flat_posOf (s : Vec Ideal S256x128 .f32) (y : S256x128.Idx) : flat s (posOf y) = s y :=
  congrArg s (idxOf_posOf y)

/-- The table of flat positions. -/
theorem pay5_apply (y : S256x128.Idx) : k0_pay5 y = BitVec.ofNat 32 (posOf y).val := by
  show IntOp.addi (IntOp.muli (BitVec.ofNat 32 (0 * 256 + (y 0).val)) 128#32) (BitVec.ofNat 32 (0 * 128 + (y 1).val)) = _
  rw [Nat.zero_mul, Nat.zero_add, Nat.zero_add]
  show BitVec.ofNat 32 (y 0).val * BitVec.ofNat 32 128 + BitVec.ofNat 32 (y 1).val = _
  rw [← BitVec.ofNat_mul, ← BitVec.ofNat_add]
  rfl

/-- A fold to one element is over every index. -/
theorem drop_all {s : Shape} {axes : List (Fin s.rank)} (h : s.Reduces axes S1) (j : S1.Idx) :
    (Finset.univ.filter fun i => h.drop i = j) = Finset.univ := by
  refine Finset.filter_true_of_mem fun i _ => funext fun b => Fin.ext ?_
  match b with
  | ⟨0, _⟩ =>
    have h1 : (h.drop i 0).val < 1 := (h.drop i 0).isLt
    have h2 : (j 0).val < 1 := (j 0).isLt
    show (h.drop i 0).val = (j 0).val
    omega

/-- An index of the row with its leading unit axis, without it. -/
def dropLead (i : S1x256x128.Idx) : S256x128.Idx := ValueIdx.ix2 (i 1) (i 2)
def addLead (y : S256x128.Idx) : S1x256x128.Idx := ValueIdx.ix3 0 (y 0) (y 1)

theorem dropLead_addLead (y : S256x128.Idx) : dropLead (addLead y) = y := (ValueIdx.eq_ix2 y).symm

theorem cast_lead {α : Type} (f : S256x128.Idx → α) (h : S256x128.ShapeCasts S1x256x128) (i : S1x256x128.Idx) :
    shapeCast S1x256x128 f h i = f (dropLead i) := by
  refine shapeCast_apply f h i (dropLead i) ?_
  have h0 : (i 0).val < 1 := (i 0).isLt
  rw [Shape.rowMajor_val_two, Shape.rowMajor_val_three]
  show (i 1).val * 128 + (i 2).val = ((i 0).val * 256 + (i 1).val) * 128 + (i 2).val
  omega

theorem cast_one {α : Type} (f : S1.Idx → α) (h : S1.ShapeCasts S1x1x1) (i : S1x1x1.Idx) :
    shapeCast S1x1x1 f h i = f (ValueIdx.ix1 (0 : Fin 1)) := by
  unfold shapeCast
  refine congrArg f (funext fun a => Fin.ext ?_)
  match a with
  | ⟨0, _⟩ =>
    have h1 : (Shape.reshapeEquiv h i 0).val < 1 := (Shape.reshapeEquiv h i 0).isLt
    show (Shape.reshapeEquiv h i 0).val = 0
    omega

/-- `−∞`, as the programs write it. -/
theorem neg_inf : (FloatOps.ofBits (F := Ideal) .f32 0xFF800000#32 : EReal) = ⊥ := by
  show Ideal.ofBits .f32 0xFF800000#32 = ⊥
  simp [Ideal.ofBits, Ideal.ieee]

/-- The row's maximum, as the body takes it. -/
def rowMax (s : Vec Ideal S256x128 .f32) : EReal :=
  extractAt (s := S1x1x1) ![0, 0, 0] (shapeCast S1x1x1 (multiReduction (F := Ideal) (φ := .f32) .maximumf [1, 2] S1
    (shapeCast S1x256x128 s shapeCasts_S256x128_S1x256x128) 0xFF800000#32 reduces_S1x256x128_S1 (.inl rfl) rfl) shapeCasts_S1_S1x1x1)
    inpos_S1x1x1_p0_0_0

theorem rowMax_eq (s : Vec Ideal S256x128 .f32) (p : Fin 32768) (h : IsTop (flat s) p) : rowMax s = flat s p := by
  unfold rowMax extractAt
  rw [cast_one]
  refine (multiReduction_maximumf_eq_fold (F := Ideal) (φ := .f32) _ _ _ _ _ _).trans ?_
  rw [drop_all]
  show (Finset.univ : Finset S1x256x128.Idx).fold max (FloatOps.ofBits (F := Ideal) .f32 0xFF800000#32 : EReal) _ = _
  rw [neg_inf]
  refine le_antisymm ?_ ?_
  · refine Finset.fold_max_le _ |>.mpr ⟨bot_le, fun i _ => ?_⟩
    have := h.1 (posOf (dropLead i))
    rw [flat_posOf] at this
    rw [cast_lead]
    exact this
  · refine Finset.le_fold_max _ |>.mpr (Or.inr ⟨addLead (idxOf p), Finset.mem_univ _, ?_⟩)
    rw [cast_lead, dropLead_addLead]
    exact le_rfl

/-- The least of the flat positions at which the row holds a value, as the body finds it. -/
def leastAt (s : Vec Ideal S256x128 .f32) (v : EReal) : BitVec 32 :=
  extractAt (s := S1x1x1) ![0, 0, 0] (shapeCast S1x1x1 (multiReductionI .minsi [1, 2] S1
    (shapeCast S1x256x128 (select (cmpf (F := Ideal) (φ := .f32) .oeq s (broadcast S256x128 v)) k0_pay5 (broadcast S256x128 32768#32))
      shapeCasts_S256x128_S1x256x128) 2147483647#32 reduces_S1x256x128_S1 rfl) shapeCasts_S1_S1x1x1) inpos_S1x1x1_p0_0_0

theorem pick_eq_leastAt (s : Vec Ideal S256x128 .f32) : pick s = leastAt s (rowMax s) := rfl

theorem toInt_min (a b : BitVec 32) : (IntOp.minsi a b).toInt = min a.toInt b.toInt := by
  simp only [IntOp.minsi, BitVec.slt, decide_eq_true_eq]
  split_ifs <;> omega

theorem toInt_pos (p : Fin 32768) : (BitVec.ofNat 32 p.val).toInt = (p.val : ℤ) := by
  have := p.isLt
  rw [BitVec.toInt_eq_toNat_of_lt] <;> rw [BitVec.toNat_ofNat] <;> omega

/-- An element of the table of candidates: the position where the row holds the value, a larger number elsewhere. -/
theorem candidate (s : Vec Ideal S256x128 .f32) (v : EReal) (y : S256x128.Idx) :
    (select (cmpf (F := Ideal) (φ := .f32) .oeq s (broadcast S256x128 v)) k0_pay5 (broadcast S256x128 32768#32) y).toInt
      = if flat s (posOf y) = v then ((posOf y).val : ℤ) else 32768 := by
  rw [flat_posOf]
  show (Scalar.select (BitVec.ofBool (decide (s y = v))) (k0_pay5 y) 32768#32).toInt = _
  by_cases h : s y = v
  · rw [if_pos h, decide_eq_true h, pay5_apply]
    exact toInt_pos _
  · rw [if_neg h, decide_eq_false h]
    rfl

/-- The body's choice is the least position at which the row is greatest. -/
theorem pick_eq (s : Vec Ideal S256x128 .f32) (p : Fin 32768) (h : IsTop (flat s) p) : pick s = BitVec.ofNat 32 p.val := by
  apply BitVec.eq_of_toInt_eq
  rw [toInt_pos, pick_eq_leastAt, rowMax_eq s p h]
  unfold leastAt extractAt
  rw [cast_one]
  refine (congrArg BitVec.toInt (multiReductionI_eq_fold .minsi _ _ _ _ _)).trans ?_
  rw [drop_all]
  show ((Finset.univ : Finset S1x256x128.Idx).fold IntOp.minsi _ _).toInt = _
  rw [← Finset.fold_hom (op' := min) (m := BitVec.toInt) (fun a b => toInt_min a b)]
  refine le_antisymm ?_ ?_
  · refine Finset.fold_min_le _ |>.mpr (Or.inr ⟨addLead (idxOf p), Finset.mem_univ _, ?_⟩)
    rw [cast_lead, dropLead_addLead, candidate, posOf_idxOf, if_pos rfl]
  · have hp := p.isLt
    refine Finset.le_fold_min _ |>.mpr ⟨?_, fun i _ => ?_⟩
    · rw [show (2147483647#32).toInt = 2147483647 by decide]; omega
    · rw [cast_lead, candidate]
      split_ifs with e
      · by_contra hlt
        have : posOf (dropLead i) < p := Fin.lt_def.mpr (by omega)
        exact absurd e (h.2 _ this).ne
      · omega

/-- The row that a round leaves, before the cast that ends the body's line. -/
def maskBody (s : Vec Ideal S256x128 .f32) : FVec Ideal S256x128 .f32 :=
  select (cmpi .eq k0_pay5 (broadcast S256x128 (pick s))) (broadcast S256x128 (Scalar.ofBits (F := Ideal) .f32 0xFF800000#32)) s

theorem mask_eq (s : Vec Ideal S256x128 .f32) : mask s = shapeCast S256x128 (maskBody s) shapeCasts_S256x128_S256x128 := rfl

theorem cast_self {α : Type} (f : S256x128.Idx → α) (h : S256x128.ShapeCasts S256x128) : shapeCast S256x128 f h = f :=
  funext fun i => shapeCast_apply f h i i rfl

theorem maskBody_apply (s : Vec Ideal S256x128 .f32) (y : S256x128.Idx) :
    maskBody s y = Scalar.select (BitVec.ofBool (k0_pay5 y == pick s)) (⊥ : EReal) (s y) := by
  have e : maskBody s y = Scalar.select (IntOp.cmpi .eq (k0_pay5 y) (pick s)) (FloatOps.ofBits (F := Ideal) .f32 0xFF800000#32) (s y) := by
    unfold maskBody
    rw [ValueIdx.select_apply]
    unfold cmpi broadcast
    rfl
  rw [e]
  exact congrArg (fun v : EReal => Scalar.select (BitVec.ofBool (k0_pay5 y == pick s)) v (s y)) neg_inf

/-- The row that a round leaves. -/
theorem flat_mask (s : Vec Ideal S256x128 .f32) (p : Fin 32768) (h : IsTop (flat s) p) :
    flat (mask s) = Function.update (flat s) p ⊥ := by
  funext q
  refine (congrFun ((mask_eq s).trans (cast_self _ _)) (idxOf q)).trans ((maskBody_apply s _).trans ?_)
  rw [pay5_apply, posOf_idxOf, pick_eq s p h]
  by_cases hq : q = p
  · subst hq
    rw [Function.update_self, beq_self_eq_true]
    rfl
  · have hne : (BitVec.ofNat 32 q.val == BitVec.ofNat 32 p.val) = false := by
      rw [beq_eq_false_iff_ne]
      intro e
      have := congrArg BitVec.toInt e
      rw [toInt_pos, toInt_pos] at this
      exact hq (Fin.ext (by exact_mod_cast this))
    rw [Function.update_of_ne hq, hne]
    rfl

/-- A row has a least position at which it is greatest. -/
theorem exists_top {n : ℕ} (hn : 0 < n) (s : Fin n → EReal) : ∃ p, IsTop s p := by
  classical
  have : Nonempty (Fin n) := ⟨⟨0, hn⟩⟩
  obtain ⟨m, hm⟩ := Finite.exists_max s
  have hne : (Finset.univ.filter fun i => s i = s m).Nonempty := ⟨m, by simp⟩
  refine ⟨(Finset.univ.filter fun i => s i = s m).min' hne, fun j => ?_, fun j hj => ?_⟩
  · have := Finset.min'_mem _ hne
    rw [(Finset.mem_filter.mp this).2]
    exact hm j
  · have h := (Finset.mem_filter.mp (Finset.min'_mem _ hne)).2
    rw [h]
    refine lt_of_le_of_ne (hm j) fun e => absurd hj (not_lt.mpr (Finset.min'_le _ _ ?_))
    simp [e]

/-- The position that round `j` takes. -/
def sel (x : Vec Ideal S1x256x128 .f32) (j : Fin 10) : Fin 32768 := (exists_top (by decide) (flat (stage x j.val))).choose

theorem sel_top (x : Vec Ideal S1x256x128 .f32) (j : Fin 10) : IsTop (flat (stage x j.val)) (sel x j) :=
  (exists_top (by decide) (flat (stage x j.val))).choose_spec

/-- The body's ten rounds are ten rounds of the mathematics. -/
theorem picks (x : Vec Ideal S1x256x128 .f32) : Picks (flat (stage x 0)) (fun j => flat (stage x j)) (sel x) where
  zero := rfl
  succ j := flat_mask _ _ (sel_top x j)
  top j := sel_top x j

theorem pick_stage (x : Vec Ideal S1x256x128 .f32) (j : Fin 10) : pick (stage x j.val) = BitVec.ofNat 32 (sel x j).val :=
  pick_eq _ _ (sel_top x j)

/-- The row that the first round finds is the block's. -/
theorem flat_stage_zero (x : Vec Ideal S1x256x128 .f32) (p : Fin 32768) : flat (stage x 0) p = x (addLead (idxOf p)) := by
  show k0_pay4 x (idxOf p) = _
  unfold k0_pay4
  refine (shapeCast_apply _ shapeCasts_S256x128_S256x128 _ (idxOf p) rfl).trans
    (shapeCast_apply x shapeCasts_S1x256x128_S256x128 _ (addLead (idxOf p)) ?_)
  rw [Shape.rowMajor_val_two, Shape.rowMajor_val_three]
  show (0 * 256 + p.val / 128) * 128 + p.val % 128 = p.val / 128 * 128 + p.val % 128
  omega

end Cert.KernelIdeal.Body

end
-- ==== Proof.Marks.lean ====
module

public import proofs.«01_k».proof.Proof.Pick

/-!
The words and the output block, over the extended reals: word `j` is ten times the position round `j` takes, and its rank
among the ten; the output block holds 1 at the places that the words name and 0 elsewhere.
-/

@[expose] public section

set_option maxRecDepth 16384

noncomputable section

namespace Cert.KernelIdeal.Body

open Idealize.ShloMosaic Idealize.ShloMosaic.TcCoe Idealize.ShloMosaic.Tactic
open Cert.KernelIdeal Cert.KernelIdeal.Gen Cert.Words Cert.Rounds

/-- How many of the positions are below the `j`-th. -/
def rank {n : ℕ} (σ : Fin 10 → Fin n) (j : Fin 10) : ℕ := (Finset.univ.filter fun m => σ m < σ j).card

theorem rank_lt {n : ℕ} (σ : Fin 10 → Fin n) (j : Fin 10) : rank σ j < 10 := by
  refine (Finset.card_lt_univ_of_notMem (x := j) ?_).trans_eq (Fintype.card_fin 10)
  simp

theorem slt_bit (a b : Fin 32768) :
    (Scalar.extui (Scalar.cmpi .slt (BitVec.ofNat 32 a.val) (BitVec.ofNat 32 b.val)) : BitVec 32) = BitVec.ofNat 32 (if a < b then 1 else 0) := by
  have e : (BitVec.ofNat 32 a.val).slt (BitVec.ofNat 32 b.val) = decide (a < b) := by
    rw [BitVec.slt, toInt_pos, toInt_pos]
    exact decide_eq_decide.mpr ⟨fun h => Fin.lt_def.mpr (by omega), fun h => by have := Fin.lt_def.mp h; omega⟩
  show (BitVec.ofBool ((BitVec.ofNat 32 a.val).slt (BitVec.ofNat 32 b.val))).setWidth 32 = _
  rw [e]
  by_cases h : a < b
  · rw [if_pos h, decide_eq_true h]; rfl
  · rw [if_neg h, decide_eq_false h]; rfl

theorem rank_fold (σ : Fin 10 → Fin 32768) (k : Fin 10) (l : List (Fin 10)) (c : ℕ) :
    l.foldl (fun a m => Scalar.addi a (Scalar.extui (Scalar.cmpi .slt (BitVec.ofNat 32 (σ m).val) (BitVec.ofNat 32 (σ k).val)))) (BitVec.ofNat 32 c)
      = BitVec.ofNat 32 (c + l.countP fun m => decide (σ m < σ k)) := by
  induction l generalizing c with
  | nil => rfl
  | cons m l ih =>
    rw [List.foldl_cons, slt_bit]
    show l.foldl _ (BitVec.ofNat 32 c + BitVec.ofNat 32 _) = _
    rw [← BitVec.ofNat_add, ih, List.countP_cons]
    congr 1
    by_cases h : σ m < σ k
    · simp [h]; omega
    · simp [h]

/-- The rank the body sums is the rank. -/
theorem rankWord_eq (σ : Fin 10 → Fin 32768) (k : Fin 10) :
    rankWord (fun j => BitVec.ofNat 32 (σ j).val) k = BitVec.ofNat 32 (rank σ k) := by
  refine (rank_fold σ k _ 0).trans (congrArg (BitVec.ofNat 32) ?_)
  rw [Nat.zero_add, List.countP_filter]
  have e : (List.finRange 10).countP (fun m => decide (σ m < σ k) && decide (m ≠ k)) = (List.finRange 10).countP fun m => decide (σ m < σ k) := by
    refine List.countP_congr fun m _ => ?_
    by_cases h : m = k
    · subst h; simp
    · simp [h]
  rw [e, List.countP_eq_length_filter]
  rfl

/-- Word `j` of a block. -/
theorem topWords_toNat (x : Vec Ideal S1x256x128 .f32) (j : Fin 10) :
    (topWords x (ix1 j)).toNat = (sel x j).val * 10 + rank (sel x) j := by
  have e : topWords x (ix1 j) = BitVec.ofNat 32 ((sel x j).val * 10 + rank (sel x) j) := by
    show Scalar.addi (Scalar.muli (pick (stage x j.val)) 10#32) (rankWord (fun k => pick (stage x k.val)) j) = _
    simp only [pick_stage]
    rw [rankWord_eq, BitVec.ofNat_add, BitVec.ofNat_mul]
    rfl
  have := rank_lt (sel x) j
  have := (sel x j).isLt
  rw [e, BitVec.toNat_ofNat]
  omega

/-- The flat place, in a row of the output, of an element of a point's block. -/
def flatPlace (i : grid0.Coords) (y : S1x40x8x128.Idx) : ℕ :=
  (i 1).val * 40960 + ((y 1).val * 1024 + (y 2).val * 128 + (y 3).val)

theorem bit_float (r l : ℕ) (hr : r < 2 ^ 32) (hl : l < 2 ^ 32) (a b : BitVec 32) :
    (FloatOps.sitofp (F := Ideal) .f32 ((IntOp.andi (IntOp.cmpi .eq (BitVec.ofNat 32 r) a) (IntOp.cmpi .eq (BitVec.ofNat 32 l) b)).setWidth 32) : EReal)
      = if r = a.toNat ∧ l = b.toNat then 1 else 0 := by
  have h1 : (BitVec.ofNat 32 r == a) = decide (r = a.toNat) := by
    rw [Bool.eq_iff_iff, beq_iff_eq, decide_eq_true_eq, ← BitVec.toNat_inj, BitVec.toNat_ofNat, Nat.mod_eq_of_lt hr]
  have h2 : (BitVec.ofNat 32 l == b) = decide (l = b.toNat) := by
    rw [Bool.eq_iff_iff, beq_iff_eq, decide_eq_true_eq, ← BitVec.toNat_inj, BitVec.toNat_ofNat, Nat.mod_eq_of_lt hl]
  show ((((BitVec.ofBool (BitVec.ofNat 32 r == a) &&& BitVec.ofBool (BitVec.ofNat 32 l == b)).setWidth 32).toInt : ℝ) : EReal) = _
  rw [h1, h2]
  by_cases c1 : r = a.toNat <;> by_cases c2 : l = b.toNat <;> simp [c1, c2]

/-- A guarded block adds 1 at the word's place, if the point's block has it, and changes nothing else. -/
theorem step_apply (i : grid0.Coords) (v : BitVec 32) (hv : v.toNat < 327680) (o : Vec Ideal S1x40x8x128 .f32) (y : S1x40x8x128.Idx) :
    (step i v o y : EReal) = (o y : EReal) + if v.toNat = flatPlace i y then 1 else 0 := by
  have hi : (i 1).val < 8 := (i 1).isLt
  have h1 : (y 1).val < 40 := (y 1).isLt
  have h2 : (y 2).val < 8 := (y 2).isLt
  have h3 : (y 3).val < 128 := (y 3).isLt
  have hL : (localWord i v).toNat = (2 ^ 32 - (i 1).val * 40960 + v.toNat) % 2 ^ 32 := by
    show (v - BitVec.ofNat 32 (i 1).val * BitVec.ofNat 32 40960).toNat = _
    rw [← BitVec.ofNat_mul, BitVec.toNat_sub, BitVec.toNat_ofNat, Nat.mod_eq_of_lt (by omega : (i 1).val * 40960 < 2 ^ 32)]
  unfold step flatPlace
  by_cases hc : (localWord i v).toNat < 40960 ∧ (y 1).val = (localWord i v).toNat / 1024
  · rw [if_pos hc]
    obtain ⟨hlt, hy⟩ := hc
    have ht : (tileWord i v).toNat = (localWord i v).toNat % 1024 :=
      toNat_sub_mul_fdiv (localWord i v) 1024 (by omega) (by decide) (by decide)
    have hr : (rowWord i v).toNat = (localWord i v).toNat % 1024 / 128 :=
      (toNat_fdiv (tileWord i v) 128 (by omega) (by decide) (by decide)).trans (by rw [ht])
    have hl : (laneWord i v).toNat = (localWord i v).toNat % 1024 % 128 :=
      (toNat_sub_mul_fdiv (tileWord i v) 128 (by omega) (by decide) (by decide)).trans (by rw [ht])
    have hb : (bitAt Ideal i v (y 2) (y 3) : EReal) = if (y 2).val = (rowWord i v).toNat ∧ (y 3).val = (laneWord i v).toNat then 1 else 0 :=
      bit_float (y 2).val (y 3).val (by omega) (by omega) _ _
    show (o y : EReal) + (bitAt Ideal i v (y 2) (y 3) : EReal) = _
    rw [hb]
    refine congrArg (fun e : EReal => (o y : EReal) + e) (if_congr ?_ rfl rfl)
    rw [hr, hl]
    omega
  · rw [if_neg hc, if_neg (fun hp => hc ⟨by omega, by omega⟩), add_zero]

/-- The block after the words of a list, each at its own place. -/
theorem steps_apply (i : grid0.Coords) (W : Vec Ideal S10 .i32) (hW : ∀ j, (W (ix1 j)).toNat < 327680)
    (hinj : Function.Injective fun j : Fin 10 => (W (ix1 j)).toNat) (y : S1x40x8x128.Idx) (l : List (Fin 10)) (hl : l.Nodup)
    (o : Vec Ideal S1x40x8x128 .f32) :
    (l.foldl (fun o j => step i (W (ix1 j)) o) o y : EReal) = (o y : EReal) + if ∃ j ∈ l, (W (ix1 j)).toNat = flatPlace i y then 1 else 0 := by
  induction l generalizing o with
  | nil => simp
  | cons a l ih =>
    rw [List.nodup_cons] at hl
    rw [List.foldl_cons, ih hl.2, step_apply i _ (hW a), add_assoc]
    congr 1
    by_cases ha : (W (ix1 a)).toNat = flatPlace i y
    · have hn : ¬ ∃ j ∈ l, (W (ix1 j)).toNat = flatPlace i y := by
        rintro ⟨j, hj, e⟩
        have : j = a := hinj (e.trans ha.symm)
        exact hl.1 (this ▸ hj)
      rw [if_pos ha, if_neg hn, if_pos ⟨a, List.mem_cons_self, ha⟩, add_zero]
    · rw [if_neg ha, zero_add]
      refine if_congr ?_ rfl rfl
      simp [ha]

/-- The output block: 1 at the places that the words name, 0 elsewhere. -/
theorem outBlock_apply (i : grid0.Coords) (W : Vec Ideal S10 .i32) (hW : ∀ j, (W (ix1 j)).toNat < 327680)
    (hinj : Function.Injective fun j : Fin 10 => (W (ix1 j)).toNat) (y : S1x40x8x128.Idx) :
    (outBlock i W y : EReal) = if ∃ j, (W (ix1 j)).toNat = flatPlace i y then 1 else 0 := by
  refine (steps_apply i W hW hinj y _ (List.nodup_finRange 10) _).trans ?_
  have hz : (k0_pay41 (F := Ideal) y : EReal) = 0 := by
    show Ideal.ofBits .f32 0x00000000#32 = 0
    simp [Ideal.ofBits, Ideal.ieee]
  rw [hz, zero_add]
  refine if_congr ?_ rfl rfl
  simp

end Cert.KernelIdeal.Body

end
-- ==== Proof.Out.lean ====
module

public import proofs.«01_k».proof.Proof.Launch
public import proofs.«01_k».proof.Proof.Marks

/-!
The kernel's result: after the run the array holds, in the row `b`, 1 at the places that the row's ten words name, and the
host's last line reads it as `[128, 32768, 10]`: element `(b, n, s)` is 1 exactly when the `s`-th of the sorted positions
that the ten rounds took is `n`.
-/

@[expose] public section

set_option maxRecDepth 16384

noncomputable section

namespace Cert.KernelIdeal.Body
open Cert.KernelIdeal Cert.KernelIdeal.Gen Cert.Rounds
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The ten positions of a row. -/
def rowSel (c : Dev nD) (b : Fin 128) : Fin 10 → Fin 32768 := sel (rowBlock (V m c main_v0) b)

theorem rowWords_toNat (c : Dev nD) (b : Fin 128) (j : Fin 10) :
    (rowWords m c b (ix1 j)).toNat = (rowSel m c b j).val * 10 + rank (rowSel m c b) j := topWords_toNat _ j

/-- The array the launch leaves: 1 where a word of the row names the place. -/
def placed (c : Dev nD) : Vec Ideal S128x320x8x128 .f32 := fun z =>
  if ∃ j, (rowWords m c (z 0) (ix1 j)).toNat = (z 1).val * 1024 + (z 2).val * 128 + (z 3).val then (1 : EReal) else 0

section Distinct

variable (hσ : ∀ (c : Dev nD) (b : Fin 128), Function.Injective (rowSel m c b))
include hσ

theorem rowWords_inj (c : Dev nD) (b : Fin 128) : Function.Injective fun j : Fin 10 => (rowWords m c b (ix1 j)).toNat := by
  intro j k h
  have h' : (rowWords m c b (ix1 j)).toNat = (rowWords m c b (ix1 k)).toNat := h
  rw [rowWords_toNat, rowWords_toNat] at h'
  have := rank_lt (rowSel m c b) j
  have := rank_lt (rowSel m c b) k
  exact hσ c b (Fin.ext (by omega))

omit hσ in
theorem rowWords_lt (c : Dev nD) (b : Fin 128) (j : Fin 10) : (rowWords m c b (ix1 j)).toNat < 327680 := by
  rw [rowWords_toNat]
  have := rank_lt (rowSel m c b) j
  have := (rowSel m c b j).isLt
  omega

omit hσ in
/-- Where an element of a point's block is in the array. -/
theorem out_emb (t : Fin cfg0.N) (y : S1x40x8x128.Idx) : ((cfg0.win 1).blk t).view.emb y
    = (ValueIdx.ix4 (rowOf t) ⟨t.val % 8 * 40 + (y 1).val, by have : (y 1).val < 40 := (y 1).isLt; omega⟩ (y 2) (y 3) : S128x320x8x128.Idx) := by
  have hN := lt_of_lt_of_eq t.isLt (show cfg0.N = 1024 from N_0)
  have e0 := coord0 t
  have e1 := coord1 t
  funext a; apply Fin.ext
  refine (Pipeline.Window.rect_emb_val (cfg0.win 1) t y a).trans ?_
  have h0 : (y 0).val < 1 := (y 0).isLt
  match a with
  | ⟨0, _⟩ =>
    show (BitVec.ofNat 32 (grid0.coords t 0).val).toNat * 1 + (y 0).val = t.val / 8
    rw [e0, BitVec.toNat_ofNat]; omega
  | ⟨1, _⟩ =>
    show (BitVec.ofNat 32 (grid0.coords t 1).val).toNat * 40 + (y 1).val = t.val % 8 * 40 + (y 1).val
    rw [e1, BitVec.toNat_ofNat]; omega
  | ⟨2, _⟩ => show 0 * 8 + (y 2).val = (y 2).val; omega
  | ⟨3, _⟩ => show 0 * 128 + (y 3).val = (y 3).val; omega

omit hσ in
/-- A block of the output is written back whole. -/
theorem block_cut (t : Fin cfg0.N) (f : S1x40x8x128.Idx → EReal) (y : S1x40x8x128.Idx) :
    (cfg0.win 1).cut (α := EReal) (grid0.coords t) f y = f y := rfl

omit hσ in
/-- A point's block of an array, element by element. -/
theorem block_read (t : Fin cfg0.N) (G : S128x320x8x128.Idx → EReal) (y : S1x40x8x128.Idx) :
    ((cfg0.win 1).blk t).view.read (Elt Ideal) G y = G (((cfg0.win 1).blk t).view.emb y) := rfl

/-- What a point writes back is its block of that array. -/
theorem flushed_eq (c : Dev nD) (t : Fin cfg0.N) :
    (dats m 0 c).flushed 1 t = ((cfg0.win 1).blk t).view.read (Elt Ideal) (placed m c) := by
  show (cfg0.win 1).cut (grid0.coords t) ((dats m 0 c).after 1 t) = _
  rw [after_out]
  funext y
  refine (block_cut t _ y).trans (Eq.trans ?_ (block_read t _ y).symm)
  rw [out_emb]
  refine (outBlock_apply (grid0.coords t) (rowWords m c (rowOf t)) (rowWords_lt m c _) (rowWords_inj m hσ c _) y).trans ?_
  refine if_congr (exists_congr fun j => ?_) rfl rfl
  have e1 : (grid0.coords t 1).val = t.val % 8 := (coord1 t).trans (by rw [Nat.div_one])
  show (rowWords m c (rowOf t) (ix1 j)).toNat = flatPlace (grid0.coords t) y
    ↔ (rowWords m c (rowOf t) (ix1 j)).toNat = (t.val % 8 * 40 + (y 1).val) * 1024 + (y 2).val * 128 + (y 3).val
  unfold flatPlace
  rw [e1]
  constructor <;> intro h <;> omega

omit hσ in
/-- The blocks tile the array. -/
theorem cover (z : S128x320x8x128.Idx) : ∃ t : Fin cfg0.N, (cfg0.win 1).flush t = true ∧ z ∈ ((cfg0.win 1).blk t).view.set := by
  have hz0 : (z 0).val < 128 := (z 0).isLt
  have hz1 : (z 1).val < 320 := (z 1).isLt
  let t : Fin cfg0.N := ⟨(z 0).val * 8 + (z 1).val / 40, by rw [show cfg0.N = 1024 from N_0]; omega⟩
  let y : S1x40x8x128.Idx := ValueIdx.ix4 (0 : Fin 1) ⟨(z 1).val % 40, by omega⟩ (z 2) (z 3)
  refine ⟨t, flush0_1 t, ?_⟩
  have h := ((cfg0.win 1).blk t).view.emb_mem_set y
  rw [out_emb] at h
  have e : (ValueIdx.ix4 (rowOf t) ⟨t.val % 8 * 40 + (y 1).val, by have : (y 1).val < 40 := (y 1).isLt; omega⟩ (y 2) (y 3) : S128x320x8x128.Idx) = z := by
    funext a; apply Fin.ext
    match a with
    | ⟨0, _⟩ => show ((z 0).val * 8 + (z 1).val / 40) / 8 = (z 0).val; omega
    | ⟨1, _⟩ => show ((z 0).val * 8 + (z 1).val / 40) % 8 * 40 + (z 1).val % 40 = (z 1).val; omega
    | ⟨2, _⟩ => rfl
    | ⟨3, _⟩ => rfl
  rwa [e] at h

/-- The array after the run. -/
theorem final (c : Dev nD) : (dats m 0 c).arrAt 1 cfg0.N = placed m c :=
  (dats m 0 c).arrAt_eq_of_cover 1 (placed m c) (fun t _ => flushed_eq m hσ c t) cover

end Distinct

/-- The marks of ten positions in each row: element `(b, n, s)` is 1 when the `s`-th of the sorted positions is `n`, else 0. -/
def marks (σ : Fin 128 → Fin 10 → Fin 32768) : Vec Ideal S128x32768x10 .f32 := fun i =>
  if (σ (i 0) (place (σ (i 0)) (i 2))).val = (i 1).val then (1 : EReal) else 0

/-- The word of the `j`-th position names the flat place of `(n, s)` exactly when the position is `n` and its rank `s`. -/
theorem word_iff (c : Dev nD) (b : Fin 128) (j : Fin 10) (n : Fin 32768) (s : Fin 10) :
    (rowWords m c b (ix1 j)).toNat = (n.val * 10 + s.val) / 1024 * 1024 + (n.val * 10 + s.val) % 1024 / 128 * 128
      + (n.val * 10 + s.val) % 128 ↔ rowSel m c b j = n ∧ rank (rowSel m c b) j = s.val := by
  rw [rowWords_toNat, Fin.ext_iff]
  have hr := rank_lt (rowSel m c b) j
  constructor <;> intro h <;> omega

/-- That array read as `[128, 32768, 10]` is the marks of the rows' positions. -/
theorem placed_cast (hσ : ∀ (c : Dev nD) (b : Fin 128), Function.Injective (rowSel m c b)) (c : Dev nD) :
    shapeCast S128x32768x10 (placed m c) shapeCasts_S128x320x8x128_S128x32768x10 = marks (rowSel m c) := by
  funext i
  have h1 : (i 1).val < 32768 := (i 1).isLt
  have h2 : (i 2).val < 10 := (i 2).isLt
  refine (shapeCast_apply (placed m c) _ i (ValueIdx.ix4 (i 0) ⟨((i 1).val * 10 + (i 2).val) / 1024, by omega⟩
    ⟨((i 1).val * 10 + (i 2).val) % 1024 / 128, by omega⟩ ⟨((i 1).val * 10 + (i 2).val) % 128, by omega⟩) ?_).trans ?_
  · rw [Shape.rowMajor_val_four, Shape.rowMajor_val_three]
    show (((i 0).val * 320 + ((i 1).val * 10 + (i 2).val) / 1024) * 8 + ((i 1).val * 10 + (i 2).val) % 1024 / 128) * 128
      + ((i 1).val * 10 + (i 2).val) % 128 = ((i 0).val * 32768 + (i 1).val) * 10 + (i 2).val
    omega
  · refine if_congr (Iff.trans (exists_congr fun j => ?_) ((rank_iff (rowSel m c (i 0)) (hσ c (i 0)) (i 1) (i 2)).trans Fin.ext_iff)) rfl rfl
    exact word_iff m c (i 0) j (i 1) (i 2)

/-- The result buffer after the host's last line. -/
theorem tail_eq (hσ : ∀ (c : Dev nD) (b : Fin 128), Function.Injective (rowSel m c b)) (c : Dev nD) :
    Pipeline.afterTail₀ cfgs (dats m) 0 (V0 m) [hostOps1] c main_v2 = marks (rowSel m c) := by
  have e : Pipeline.withArrays (cfgs 0).spec c (V0 m c) (fun w => (dats m 0 c).arrAt w (cfgs 0).N) (Proc.devRef .tc main_v1)
      = placed m c :=
    (Pipeline.withArrays_arr spec0 launch0.win.arr_inj c (V0 m c) (fun w => (dats m 0 c).arrAt w (cfgs 0).N) 1).trans (final m hσ c)
  unfold Pipeline.afterTail₀
  simp only [hostOps1, List.flatten_cons, List.flatten_nil, List.append_nil]
  rw [← placed_cast m hσ c, ← e]
  after_results
  rfl

/-- The run of the kernel: the result is the marks of the rows' positions, the argument unchanged. -/
theorem run_marks (hσ : ∀ (c : Dev nD) (b : Fin 128), Function.Injective (rowSel m c b)) :
    θ_run (defs (F := Ideal)) (onTc (τ := τ) (main (F := Ideal))) ⟨m, fun _ => 0, ρ⟩ (fun r => ∀ c : Dev nD,
      r.2.mem ((c.tc : Thread nD τ).loc main_v2) = marks (rowSel m c)
      ∧ r.2.mem ((c.tc : Thread nD τ).loc main_arg0) = m ((c.tc : Thread nD τ).loc main_arg0)) :=
  (θ_run defs _ _).mono (fun _ h c =>
    ⟨((h.1.1 c).2 main_v2 (Pipeline.mem_restRefs_of main_v2 (by decide) (by decide))).trans (tail_eq m hσ c), h.2.1 c⟩)
    (θ_run_and (run_quiescent m ρ) (frame m ρ))

/-- The region finds the argument row by row. -/
theorem V_v0 (c : Dev nD) : (V m c main_v0 : Vec Ideal S128x256x128 .f32)
    = shapeCast S128x256x128 (m ((c.tc : Thread nD τ).loc main_arg0) : Vec Ideal S128x32768 .f32) shapeCasts_S128x32768_S128x256x128 := by
  show StableHlo.after (List.flatten [hostOps0]) (fun b => m (c, b)) (Proc.devRef .tc main_v0) = _
  simp only [hostOps0, List.flatten_cons, List.flatten_nil, List.append_nil]
  after_results
  rfl

/-- The row that the first round finds, by flat positions, is the argument's row. -/
theorem row_zero (c : Dev nD) (b : Fin 128) (p : Fin 32768) : flat (stage (rowBlock (V m c main_v0) b) 0) p
    = (m ((c.tc : Thread nD τ).loc main_arg0) : Vec Ideal S128x32768 .f32) (ValueIdx.ix2 b p) := by
  rw [flat_stage_zero, V_v0]
  refine shapeCast_apply _ _ _ (ValueIdx.ix2 b p) ?_
  rw [Shape.rowMajor_val_two, Shape.rowMajor_val_three]
  show b.val * 32768 + p.val = (b.val * 256 + p.val / 128) * 128 + p.val % 128
  omega

end Cert.KernelIdeal.Body

end
-- ==== Proof.RValue.lean ====
module

public import proofs.«01_k».proof.Defs
public import proofs.«01_k».proof.Proof.Gen.ReferenceIdeal
public import proofs.«01_k».proof.Proof.Gen.ReferenceIdeal.Run
public import proofs.«01_k».proof.Proof.TopK
public import proofs.«01_k».proof.Proof.Out

/-!
The reference's result: element `(b, n, s)` is 1 exactly when the `s`-th of the sorted top-k positions of the row `b` is `n`.
-/

@[expose] public section

noncomputable section

namespace Cert.ReferenceIdeal.Value
open Cert.ReferenceIdeal Cert.ReferenceIdeal.Gen Cert.Rounds
open Idealize.ShloMosaic Idealize.ShloMosaic.TcCoe
open Idealize.SL.Sem

/-- The ten positions the reference's top-k gives in each row. -/
def tops (X : Vec Ideal S128x32768 .f32) (b : Fin 128) : Fin 10 → Fin 32768 :=
  topPos (k := 10) (n := 32768) (by decide) (rowAt (B := 128) (n := 32768) X b)

/-- The positions, sorted. -/
def sortedWords (X : Vec Ideal S128x32768 .f32) : IVec S128x10 32 :=
  Host.sort S128x10 1 comparator_i32_d1
    ((Host.topK S128x10 1 (FloatOps.cmpfTotal (F := Ideal) (φ := .f32) .gt) X sliceFits_S128x32768_S128x10).2)

theorem sortedWords_apply (X : Vec Ideal S128x32768 .f32) (b : Fin 128) (t : Fin 10) :
    sortedWords X (ValueIdx.ix2 b t) = BitVec.ofNat 32 (tops X b (place (tops X b) t)).val :=
  sort_pos (by decide) (tops X) _ (fun b j => topK_pos (by decide) X sliceFits_S128x32768_S128x10 b j) b t

/-- The words of two positions agree when the positions do. -/
theorem eq_pos (p q : Fin 32768) : (FloatOps.uitofp (F := Ideal) (w := 1) .f32
    (IntOp.cmpi .eq (BitVec.ofNat 32 p.val) (BitVec.ofNat 32 q.val)) : EReal) = if p.val = q.val then 1 else 0 := by
  by_cases h : p.val = q.val
  · rw [if_pos h, h]
    have e : IntOp.cmpi .eq (BitVec.ofNat 32 q.val) (BitVec.ofNat 32 q.val) = 1#1 := congrArg BitVec.ofBool (decide_eq_true rfl)
    rw [e]
    show ((((1#1 : BitVec 1).toNat : ℕ) : ℝ) : EReal) = 1
    simp
  · rw [if_neg h]
    have hne : ¬BitVec.ofNat 32 p.val = BitVec.ofNat 32 q.val := fun e => by
      have e' := congrArg BitVec.toNat e
      rw [BitVec.toNat_ofNat, BitVec.toNat_ofNat] at e'
      have := p.isLt
      have := q.isLt
      omega
    have e : IntOp.cmpi .eq (BitVec.ofNat 32 p.val) (BitVec.ofNat 32 q.val) = 0#1 := congrArg BitVec.ofBool (decide_eq_false hne)
    rw [e]
    show ((((0#1 : BitVec 1).toNat : ℕ) : ℝ) : EReal) = 0
    simp

/-- The one-hot comparison of sorted words, transposed, read at an element. -/
theorem onehot_apply (w : IVec S128x10 32) (i : S128x32768x10.Idx) :
    transpose S128x32768x10 [0, 2, 1] (uitofp (F := Ideal) .f32 (cmpi .eq
      (broadcastInDim S128x10x32768 ![0, 1, 2] bcast_S128x10x1_S128x10x32768_0_1_2
        (broadcastInDim S128x10x1 ![0, 1] bcast_S128x10_S128x10x1_0_1 w))
      (broadcastInDim S128x10x32768 ![0, 1, 2] bcast_S1x1x32768_S128x10x32768_0_1_2 (iotaInDim S1x1x32768 32 2))))
      transposes_S128x10x32768_S128x32768x10_0_2_1 i
    = (FloatOps.uitofp (F := Ideal) (w := 1) .f32
        (IntOp.cmpi .eq (w (ValueIdx.ix2 (i 0) (i 2))) (BitVec.ofNat 32 (i 1).val)) : EReal) := by
  refine (transpose_apply _ _ _ i (ValueIdx.ix3 (i 0) (i 2) (i 1)) ?_).trans ?_
  · intro a
    match a with
    | ⟨0, _⟩ => rfl
    | ⟨1, _⟩ => rfl
    | ⟨2, _⟩ => rfl
  · refine congrArg₂ (fun u v => FloatOps.uitofp (F := Ideal) (w := 1) .f32 (IntOp.cmpi .eq u v)) ?_ ?_
    · refine (broadcastInDim_apply _ _ _ _ (ValueIdx.ix3 (i 0) (i 2) (0 : Fin 1)) ?_).trans
        (broadcastInDim_apply _ _ _ _ (ValueIdx.ix2 (i 0) (i 2)) ?_)
      · intro a
        match a with
        | ⟨0, _⟩ => rfl
        | ⟨1, _⟩ => rfl
        | ⟨2, _⟩ => rfl
      · intro a
        match a with
        | ⟨0, _⟩ => rfl
        | ⟨1, _⟩ => rfl
    · refine (broadcastInDim_apply _ _ _ _ (ValueIdx.ix3 (0 : Fin 1) (0 : Fin 1) (i 1)) ?_).trans rfl
      intro a
      match a with
      | ⟨0, _⟩ => rfl
      | ⟨1, _⟩ => rfl
      | ⟨2, _⟩ => rfl

/-- The reference's result is the marks of its positions. -/
theorem value_eq (X : Vec Ideal S128x32768 .f32) :
    transpose S128x32768x10 [0, 2, 1] (uitofp (F := Ideal) .f32 (cmpi .eq
      (broadcastInDim S128x10x32768 ![0, 1, 2] bcast_S128x10x1_S128x10x32768_0_1_2
        (broadcastInDim S128x10x1 ![0, 1] bcast_S128x10_S128x10x1_0_1 (sortedWords X)))
      (broadcastInDim S128x10x32768 ![0, 1, 2] bcast_S1x1x32768_S128x10x32768_0_1_2 (iotaInDim S1x1x32768 32 2))))
      transposes_S128x10x32768_S128x32768x10_0_2_1 = Cert.KernelIdeal.Body.marks (tops X) := by
  funext i
  refine (onehot_apply (sortedWords X) i).trans ?_
  refine (congrArg (fun w => (FloatOps.uitofp (F := Ideal) (w := 1) .f32
    (IntOp.cmpi .eq w (BitVec.ofNat 32 (i 1).val)) : EReal)) (sortedWords_apply X (i 0) (i 2))).trans ?_
  exact eq_pos (tops X (i 0) (place (tops X (i 0)) (i 2))) (i 1)

/-- The run of the reference: the result is the marks of its positions, the argument unchanged. -/
theorem run_marks (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.KernelIdeal.Body.marks (tops (m ((c.tc : Thread nD τ).loc main_arg0)))
      ∧ r.2.mem ((c.tc : Thread nD τ).loc main_arg0) = m ((c.tc : Thread nD τ).loc main_arg0)) :=
  (θ_run defs _ _).mono (fun _ h c => ⟨(h c).1.trans (value_eq (m ((c.tc : Thread nD τ).loc main_arg0))), (h c).2⟩)
    (run (F := Ideal) m ρ)

end Cert.ReferenceIdeal.Value

end
-- ==== Proof.Equal.lean ====
module

public import proofs.«01_k».proof.Defs
public import proofs.«01_k».proof.Proof.RValue
public import Idealize.ShloMosaic.Lib.ReduceAll

/-!
The kernel and the reference agree: where every row has ten entries above `−∞`, the positions of the ten rounds are the
reference's top-k positions, so that both results are the marks of the same positions.
-/

@[expose] public section

noncomputable section

namespace Cert.Equal
open Idealize.ShloMosaic Idealize.ShloMosaic.TcCoe Idealize.SL.Sem Cert.Rounds
open Cert.KernelIdeal.Body (rowSel marks row_zero picks sel rowBlock flat stage)
open Cert.ReferenceIdeal.Value (tops)

/-- The shape relations of the precondition's operations. -/
theorem preFacts : Cert.Pre_ten_above.Facts where
  sliceFits_S128x32768_S128x10 := ⟨rfl, by decide⟩
  bcast_S_S128x10 := by decide
  reducesTo_S128x10_S_d0_1 := by decide
  h_S_ := by decide

theorem ten_le : 10 ≤ 32768 := by decide

/-- What the precondition says: each of the ten greatest entries of a row is above `−∞`. -/
theorem ten_above [Cert.Pre_ten_above.Facts] (X : Vec Ideal Cert.Pre_ten_above.S128x32768 .f32)
    (h : Cert.Pre_ten_above.fn (F := Ideal) X = fun _ => 1#1) (b : Fin 128) (j : Fin 10) :
    ⊥ < rowAt (B := 128) (n := 32768) X b (tops X b j) := by
  unfold Cert.Pre_ten_above.fn at h
  haveI : Subsingleton Cert.Pre_ten_above.S_.Idx := ⟨fun _ _ => funext fun a => a.elim0⟩
  have e := Host.reduce_andi_all _ _ _ _ (fun a => a.elim0) (congrFun h _) (ValueIdx.ix2 b j)
  have e' : Ideal.cmp .ogt
      ((Host.topK Cert.Pre_ten_above.S128x10 1 (FloatOps.cmpfTotal (F := Ideal) (φ := .f32) .gt) X
        Cert.Pre_ten_above.Facts.sliceFits_S128x32768_S128x10).1 (ValueIdx.ix2 b j))
      (FloatOps.ofBits (F := Ideal) .f32 0xFF800000#32 : EReal) = 1#1 := e
  rw [Cert.KernelIdeal.Body.neg_inf, topK_entry (B := 128) (n := 32768) (k := 10) (by decide) X _ b j] at e'
  exact of_decide_eq_true ((ofBool_beq _).symm.trans (beq_iff_eq.mpr e'))

section Kernel

variable [Cert.Pre_ten_above.Facts] (m : (ℓ : Loc Cert.KernelIdeal.nD Cert.KernelIdeal.τ Cert.KernelIdeal.sig) → Buf (Elt Ideal) ℓ)
  (hpre : Cert.Pre_KernelIdeal_ten_above m)

/-- The argument of the kernel on a device. -/
abbrev arg (c : Dev Cert.KernelIdeal.nD) : Vec Ideal Cert.Pre_ten_above.S128x32768 .f32 :=
  m ((c.tc : Thread Cert.KernelIdeal.nD Cert.KernelIdeal.τ).loc Cert.KernelIdeal.main_arg0)

omit [Cert.Pre_ten_above.Facts] in
/-- The ten rounds pick from the argument's row. -/
theorem rowPicks (c : Dev Cert.KernelIdeal.nD) (b : Fin 128) : Picks (rowAt (B := 128) (n := 32768) (arg m c) b)
    (fun j => flat (stage (rowBlock (Cert.KernelIdeal.Gen.V m c Cert.KernelIdeal.main_v0) b) j)) (rowSel m c b) := by
  have e : rowAt (B := 128) (n := 32768) (arg m c) b
      = flat (stage (rowBlock (Cert.KernelIdeal.Gen.V m c Cert.KernelIdeal.main_v0) b) 0) :=
    funext fun p => (row_zero m c b p).symm
  rw [e]
  exact picks (rowBlock (Cert.KernelIdeal.Gen.V m c Cert.KernelIdeal.main_v0) b)

include hpre

theorem rowSel_inj (c : Dev Cert.KernelIdeal.nD) (b : Fin 128) : Function.Injective (rowSel m c b) :=
  (rowPicks m c b).injective ten_le fun j => ten_above (arg m c) (hpre c) b j

/-- The positions of the rounds are the top-k positions. -/
theorem rowSel_eq (c : Dev Cert.KernelIdeal.nD) : rowSel m c = tops (arg m c) :=
  funext fun b => funext fun j => ((rowPicks m c b).sorted ten_le (fun i => ten_above (arg m c) (hpre c) b i) j).symm

end Kernel

/-- The kernel and the reference end with one and the same result. -/
theorem algebraic [Cert.Pre_ten_above.Facts] : Cert.algebraic_KernelIdeal_ReferenceIdeal_pre_ten_above := by
  intro m g m' g' hpre harg
  refine ⟨fun c => marks (tops (arg m c)), ?_, ?_⟩
  · refine (θ_run _ _ _).mono (fun _ h c => ⟨(h c).1.trans ?_, (h c).2⟩) (Cert.KernelIdeal.Body.run_marks m g (rowSel_inj m hpre))
    rw [rowSel_eq m hpre c]
  · refine (θ_run _ _ _).mono (fun _ h c => ⟨(h c).1.trans ?_, (h c).2⟩) (Cert.ReferenceIdeal.Value.run_marks m' g')
    exact congrArg (fun X => marks (tops X)) (harg c)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.RFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim, with the side conditions the programs and the precondition state: the three frames (the ideal kernel's and
    the reference's once more under the precondition, which they do not need), the idealization, and the equality of the results. -/
theorem claim : Cert.Claim :=
  haveI := Cert.Equal.preFacts
  ⟨Cert.Kernel.Gen.facts, Cert.KernelIdeal.Gen.facts, Cert.ReferenceIdeal.Gen.facts, Cert.Equal.preFacts,
    fun m g _ => Cert.KernelIdeal.Body.kernel_frame m g, fun m g _ => Cert.KernelIdeal.Body.frame m g,
    fun m g _ => Cert.KernelIdeal.Body.frame m g, fun m g _ => Cert.ReferenceIdeal.Value.frame m g,
    fun m g _ => Cert.ReferenceIdeal.Value.frame m g, trivial, Cert.Equal.algebraic⟩

end Cert.Proof

end
